-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "one_hundred_thousandth" .f32 0x3727C5AC#32 ((100000⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  bcast_S_S128x128 : S_.BroadcastsInDim S128x128 (![] : Fin 0 → Fin S128x128.rank)
  bcast_S_S128 : S_.BroadcastsInDim S128 (![] : Fin 0 → Fin S128.rank)

variable [Facts]

def fn_part1 {F : FTy → Type} [FloatOps F] (main_arg3 : FVec F S128 .f32) (main_arg4 : FVec F S128 .f32) (main_arg7 : FVec F S128 .f32) (main_v2 : IVec S100000x128 1) (main_v5 : IVec S128x128 1) (main_v8 : IVec S128 1) (main_v11 : IVec S128 1) (main_v14 : IVec S128x128 1) (main_v17 : IVec S128 1) : IVec S100000x128 1 × IVec S128x128 1 × IVec S128 1 × IVec S128 1 × IVec S128x128 1 × IVec S128 1 × IVec S128 1 × IVec S128 1 × IVec S128 1 × IVec S128 1 :=
  let main_v18 : FVec F S128 .f32 := Host.absf main_arg7
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_cst_6 : FVec F S_ .f32 := constant S_ .f32 0x7F800000#32
  let main_v21 : FVec F S128 .f32 := broadcastInDim S128 ![] bcast_S_S128 main_cst_6
  let main_v22 : IVec S128 1 := cmpf .olt main_arg4 main_v21
  let main_cst_7 : FVec F S_ .f32 := constant S_ .f32 0x00000000#32
  let main_v23 : FVec F S128 .f32 := broadcastInDim S128 ![] bcast_S_S128 main_cst_7
  let main_v24 : IVec S128 1 := cmpf .ogt main_arg3 main_v23
  let main_cst_8 : FVec F S_ .f32 := constant S_ .f32 0x00000000#32
  let main_v25 : FVec F S128 .f32 := broadcastInDim S128 ![] bcast_S_S128 main_cst_8
  let main_v26 : IVec S128 1 := cmpf .ogt main_arg7 main_v25
  (main_v2, main_v5, main_v8, main_v11, main_v14, main_v17, main_v20, main_v22, main_v24, main_v26)

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) : IVec S100000x128 1 × IVec S128x128 1 × IVec S128 1 × IVec S128 1 × IVec S128x128 1 × IVec S128 1 × IVec S128 1 × IVec S128 1 × IVec S128 1 × IVec S128 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_v3 : FVec F S128x128 .f32 := Host.absf main_arg1
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128x128 .f32 := Host.absf main_arg5
  let main_cst_3 : FVec F S_ .f32 := constant S_ .f32 0x7F800000#32
  let main_v13 : FVec F S128x128 .f32 := broadcastInDim S128x128 ![] bcast_S_S128x128 main_cst_3
  let main_v14 : IVec S128x128 1 := cmpf .olt main_v12 main_v13
  let main_v15 : FVec F S128 .f32 := Host.absf main_arg6
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg3 main_arg4 main_arg7 main_v2 main_v5 main_v8 main_v11 main_v14 main_v17
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩
abbrev S2x128 : Shape := ⟨2, ![2, 128]⟩
abbrev S5000x128 : Shape := ⟨2, ![5000, 128]⟩
abbrev S2500x128 : Shape := ⟨2, ![2500, 128]⟩
abbrev S1250x128 : Shape := ⟨2, ![1250, 128]⟩
abbrev S625x128 : Shape := ⟨2, ![625, 128]⟩

abbrev nBuf : Space → Nat
  | .hbm => 17
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S100000x128, .bf16⟩
  | .local _ .vmem, ⟨13, _⟩ => ⟨S2x128, .f32⟩
  | .local _ .vmem, ⟨14, _⟩ => ⟨S2x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![3, 10], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c10000_i32 : BitVec 32 := 10000#32
  let v0 : BitVec 32 := Scalar.muli arg1 c10000_i32
  let v16 : Index := Scalar.indexCast v0
  let c0_6 : Index := 0#32
  ![v16.toNat, 0]
def k0_cond4 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off2 (i : grid0.Coords) : Fin 2 → Nat :=
  let arg1 : BitVec 32 := BitVec.ofNat 32 (i 1).val
  let c10000_i32 : BitVec 32 := 10000#32
  let v0 : BitVec 32 := Scalar.muli arg1 c10000_i32
  let v30 : Index := Scalar.indexCast v0
  let c0_10 : Index := 0#32
  ![v30.toNat, 0]
def k0_cond7 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_off3 (i : grid0.Coords) : Fin 2 → Nat :=
  let arg1 : BitVec 32 := BitVec.ofNat 32 (i 1).val
  let c10000_i32 : BitVec 32 := 10000#32
  let v0 : BitVec 32 := Scalar.muli arg1 c10000_i32
  let v30 : Index := Scalar.indexCast v0
  let c0_10 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S10000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "one_hundred_thousandth" => some ((100000⁻¹ : ℝ) : EReal)
  | _ => none
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S128x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S128x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_cst_7 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Proof.Triples.lean ====
/-
  The kernel body's triples, one per way its branches go: phase 0 at the first tile and at a later one, phase 1 the
  same, and phase 2. Each holds the buffers that the phase touches by the arrays they read as, and says what they read
  as afterwards, over the payload names of `Gen/KernelIdeal/Skeleton.lean`.
-/
module

public import proofs.«01_k».proof.Proof.Gen.KernelIdeal.Skeleton
public import proofs.«01_k».proof.Proof.Gen.KernelIdeal.Frame
public import Idealize.ShloMosaic.Lib.Tactic
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The word condition that `pl.when(j == 0)` tests, over the tile's number. -/
abbrev firstW (i : grid0.Coords) : BitVec 1 :=
  Scalar.cmpi .ne (Scalar.extui (Scalar.cmpi .eq (BitVec.ofNat 32 (i 1).val) 0#32) : BitVec 32) 0#32

/-- The word condition of the opposite branch. -/
abbrev laterW (i : grid0.Coords) : BitVec 1 :=
  Scalar.cmpi .ne (Scalar.extui (Scalar.xori (Scalar.cmpi .eq (BitVec.ofNat 32 (i 1).val) 0#32) 1#1) : BitVec 32) 0#32

/-! A load of a whole block reads the block; a load of a tile of the scratch reads a window of it. -/

/-- A load of the whole of a block of rows. -/
theorem rdX (M : Memref sig .tc .vmem S10000x128 .f32) (f : M.view.ty.Contents (Elt F)) (inb : ∀ a, (![0, 0] : Fin 2 → ℕ) a + (![10000, 128] : Fin 2 → ℕ) a ≤ S10000x128.size a) :
    View.readAt (Elt F) M.view (Rect.unit (s := S10000x128) ![0, 0] ![10000, 128] inb).toLoadRect f = View.read (Elt F) M.view f :=
  View.readAt_full M.view f inb

/-- A load of the whole of a weight. -/
theorem rdW (M : Memref sig .tc .vmem S128x128 .f32) (f : M.view.ty.Contents (Elt F)) (inb : ∀ a, (![0, 0] : Fin 2 → ℕ) a + (![128, 128] : Fin 2 → ℕ) a ≤ S128x128.size a) :
    View.readAt (Elt F) M.view (Rect.unit (s := S128x128) ![0, 0] ![128, 128] inb).toLoadRect f = View.read (Elt F) M.view f :=
  View.readAt_full M.view f inb

/-- A load of the whole of a row vector. -/
theorem rdV (M : Memref sig .tc .vmem S1x128 .f32) (f : M.view.ty.Contents (Elt F)) (inb : ∀ a, (![0, 0] : Fin 2 → ℕ) a + (![1, 128] : Fin 2 → ℕ) a ≤ S1x128.size a) :
    View.readAt (Elt F) M.view (Rect.unit (s := S1x128) ![0, 0] ![1, 128] inb).toLoadRect f = View.read (Elt F) M.view f :=
  View.readAt_full M.view f inb

/-- A load of the whole of the statistics. -/
theorem rdS (M : Memref sig .tc .vmem S2x128 .f32) (f : M.view.ty.Contents (Elt F)) (inb : ∀ a, (![0, 0] : Fin 2 → ℕ) a + (![2, 128] : Fin 2 → ℕ) a ≤ S2x128.size a) :
    View.readAt (Elt F) M.view (Rect.unit (s := S2x128) ![0, 0] ![2, 128] inb).toLoadRect f = View.read (Elt F) M.view f :=
  View.readAt_full M.view f inb

/-- A load of a tile of the scratch. -/
theorem rdO (M : Memref sig .tc .vmem S100000x128 .bf16) (f : M.view.ty.Contents (Elt F)) (off : Fin 2 → ℕ)
    (inb : ∀ a, off a + (![10000, 128] : Fin 2 → ℕ) a ≤ S100000x128.size a) :
    View.readAt (Elt F) M.view (Rect.unit (s := S100000x128) off ![10000, 128] inb).toLoadRect f
      = VecWindow.window (View.read (Elt F) M.view f) off ![10000, 128] inb :=
  View.readAt_unit M.view f inb rfl inb

variable (c : Dev nD) (E : Set ℕ) (i : grid0.Coords)
  (arg2 : Memref sig .tc .vmem S10000x128 .f32) (harg2 : arg2.IsWhole) (arg3 : Memref sig .tc .vmem S128x128 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S1x128 .f32) (harg8 : arg8.IsWhole) (arg9 : Memref sig .tc .vmem S1x128 .f32) (harg9 : arg9.IsWhole)
  (arg10 : Memref sig .tc .vmem S1x128 .f32) (harg10 : arg10.IsWhole) (arg11 : Memref sig .tc .vmem S10000x128 .f32) (harg11 : arg11.IsWhole)
  (arg12 : Memref sig .tc .vmem S100000x128 .bf16) (harg12 : arg12.IsWhole) (arg13 : Memref sig .tc .vmem S2x128 .f32) (harg13 : arg13.IsWhole)
  (arg14 : Memref sig .tc .vmem S2x128 .f32) (harg14 : arg14.IsWhole)

/-- The body on its operands. -/
abbrev bodyOn : Prog (TpuEff nD τ sig (Elt F) Λ₀ .tc) PUnit :=
  cc0__fused_body i arg2 harg2 arg3 harg3 arg4 harg4 arg5 harg5 arg6 harg6 arg7 harg7 arg8 harg8 arg9 harg9 arg10 harg10 arg11 harg11
    arg12 harg12 arg13 harg13 arg14 harg14

set_option maxHeartbeats 400000 in
/-- Phase 0 at the first tile: the tile's rows of the scratch take the first product, the statistics are the tile's. -/
theorem run0_first (h1 : k0_cond1 i = 1#1) (h4 : ¬ k0_cond4 i = 1#1) (h7 : ¬ k0_cond7 i = 1#1) (hf : firstW i = 1#1) (hl : ¬ laterW i = 1#1)
    (x : Vec F S10000x128 .f32) (w : Vec F S128x128 .f32) (O : Vec F S100000x128 .bf16) (s : Vec F S2x128 .f32) (K : PUnit → sProp 𝕄) :
    iprop(owns (c : Thread nD τ) arg2 fullShare x
        ∗ owns (c : Thread nD τ) arg3 fullShare w
        ∗ owns (c : Thread nD τ) arg12 fullShare O
        ∗ owns (c : Thread nD τ) arg13 fullShare s
        ∗ (iprop(owns (c : Thread nD τ) arg2 fullShare x
            ∗ owns (c : Thread nD τ) arg3 fullShare w
            ∗ owns (c : Thread nD τ) arg12 fullShare (VecWindow.put O (k0_off1 i) S10000x128.size (k0_pay7 x w))
            ∗ owns (c : Thread nD τ) arg13 fullShare (k0_pay9 x w)) -∗ K ⟨⟩))
      ⊢ wp frame (wpE (defs₀ (F := F)) Variants.none c none) E
          (bodyOn i arg2 harg2 arg3 harg3 arg4 harg4 arg5 harg5 arg6 harg6 arg7 harg7 arg8 harg8 arg9 harg9 arg10 harg10 arg11 harg11
            arg12 harg12 arg13 harg13 arg14 harg14) K := by
  unfold bodyOn
  simp only [cc0__fused_body_eq_skeleton]; unfold cc0__fused_body_skel; simp only [k0_part1_eq_skeleton, k0_part2_eq_skeleton]; unfold k0_part1_skel k0_part2_skel
  unfold owns
  iintro ⟨⟨%f2, %hf2, H2⟩, ⟨%f3, %hf3, H3⟩, ⟨%f12, %hf12, H12⟩, ⟨%f13, %hf13, H13⟩, Hk⟩
  subst hf2 hf3 hf12 hf13
  sl_exec (disch := first | sl_exact h1 | sl_exact h4 | sl_exact h7 | sl_exact hf | sl_exact hl)
  sl_step
  iapply Hk
  isplitl [H2]
  · iexists _; isplitr
    swap; · iexact H2
    ipureintro
    rfl
  isplitl [H3]
  · iexists _; isplitr
    swap; · iexact H3
    ipureintro
    rfl
  isplitl [H12]
  · iexists _; isplitr
    swap; · iexact H12
    ipureintro
    rw [View.read_writes_cons_put _ _ _ _ _ rfl]
    sl_unfold_run_names
    simp only [View.writes_nil, rdX, rdW, rdV, rdS, rdO]
  iexists _; isplitr
  swap; · iexact H13
  ipureintro
  rw [View.read_writes_full]
  sl_unfold_run_names
  simp only [rdX, rdW, rdV, rdS, rdO]

set_option maxHeartbeats 400000 in
/-- Phase 0 at a later tile: the tile's rows of the scratch take the first product, its statistics are added. -/
theorem run0_later (h1 : k0_cond1 i = 1#1) (h4 : ¬ k0_cond4 i = 1#1) (h7 : ¬ k0_cond7 i = 1#1) (hf : ¬ firstW i = 1#1) (hl : laterW i = 1#1)
    (x : Vec F S10000x128 .f32) (w : Vec F S128x128 .f32) (O : Vec F S100000x128 .bf16) (s : Vec F S2x128 .f32) (K : PUnit → sProp 𝕄) :
    iprop(owns (c : Thread nD τ) arg2 fullShare x
        ∗ owns (c : Thread nD τ) arg3 fullShare w
        ∗ owns (c : Thread nD τ) arg12 fullShare O
        ∗ owns (c : Thread nD τ) arg13 fullShare s
        ∗ (iprop(owns (c : Thread nD τ) arg2 fullShare x
            ∗ owns (c : Thread nD τ) arg3 fullShare w
            ∗ owns (c : Thread nD τ) arg12 fullShare (VecWindow.put O (k0_off1 i) S10000x128.size (k0_pay7 x w))
            ∗ owns (c : Thread nD τ) arg13 fullShare (k0_pay1 (k0_pay8 x w) s)) -∗ K ⟨⟩))
      ⊢ wp frame (wpE (defs₀ (F := F)) Variants.none c none) E
          (bodyOn i arg2 harg2 arg3 harg3 arg4 harg4 arg5 harg5 arg6 harg6 arg7 harg7 arg8 harg8 arg9 harg9 arg10 harg10 arg11 harg11
            arg12 harg12 arg13 harg13 arg14 harg14) K := by
  unfold bodyOn
  simp only [cc0__fused_body_eq_skeleton]; unfold cc0__fused_body_skel; simp only [k0_part1_eq_skeleton, k0_part2_eq_skeleton]; unfold k0_part1_skel k0_part2_skel
  unfold owns
  iintro ⟨⟨%f2, %hf2, H2⟩, ⟨%f3, %hf3, H3⟩, ⟨%f12, %hf12, H12⟩, ⟨%f13, %hf13, H13⟩, Hk⟩
  subst hf2 hf3 hf12 hf13
  sl_exec (disch := first | sl_exact h1 | sl_exact h4 | sl_exact h7 | sl_exact hf | sl_exact hl)
  sl_step
  iapply Hk
  isplitl [H2]
  · iexists _; isplitr
    swap; · iexact H2
    ipureintro
    rfl
  isplitl [H3]
  · iexists _; isplitr
    swap; · iexact H3
    ipureintro
    rfl
  isplitl [H12]
  · iexists _; isplitr
    swap; · iexact H12
    ipureintro
    rw [View.read_writes_cons_put _ _ _ _ _ rfl]
    sl_unfold_run_names
    simp only [View.writes_nil, rdX, rdW, rdV, rdS, rdO]
  iexists _; isplitr
  swap; · iexact H13
  ipureintro
  rw [View.read_writes_full]
  sl_unfold_run_names
  simp only [rdX, rdW, rdV, rdS, rdO]

set_option maxHeartbeats 400000 in
/-- Phase 1 at the first tile: the tile's rows are replaced by the second product, the second statistics are the tile's. -/
theorem run1_first (h1 : ¬ k0_cond1 i = 1#1) (h4 : k0_cond4 i = 1#1) (h7 : ¬ k0_cond7 i = 1#1) (hf : firstW i = 1#1) (hl : ¬ laterW i = 1#1)
    (w2 : Vec F S128x128 .f32) (g : Vec F S1x128 .f32) (be : Vec F S1x128 .f32) (O : Vec F S100000x128 .bf16) (s1 : Vec F S2x128 .f32) (s2 : Vec F S2x128 .f32) (K : PUnit → sProp 𝕄) :
    iprop(owns (c : Thread nD τ) arg4 fullShare w2
        ∗ owns (c : Thread nD τ) arg6 fullShare g
        ∗ owns (c : Thread nD τ) arg7 fullShare be
        ∗ owns (c : Thread nD τ) arg12 fullShare O
        ∗ owns (c : Thread nD τ) arg13 fullShare s1
        ∗ owns (c : Thread nD τ) arg14 fullShare s2
        ∗ (iprop(owns (c : Thread nD τ) arg4 fullShare w2
            ∗ owns (c : Thread nD τ) arg6 fullShare g
            ∗ owns (c : Thread nD τ) arg7 fullShare be
            ∗ owns (c : Thread nD τ) arg12 fullShare (VecWindow.put O (k0_off2 i) S10000x128.size (k0_pay11 s1 g be (VecWindow.window O (k0_off2 i) S10000x128.size (k0_off2_inb i h4)) w2))
            ∗ owns (c : Thread nD τ) arg13 fullShare s1
            ∗ owns (c : Thread nD τ) arg14 fullShare (k0_pay3 (k0_pay10 s1 g be (VecWindow.window O (k0_off2 i) S10000x128.size (k0_off2_inb i h4)) w2) (k0_pay12 s1 g be (VecWindow.window O (k0_off2 i) S10000x128.size (k0_off2_inb i h4)) w2))) -∗ K ⟨⟩))
      ⊢ wp frame (wpE (defs₀ (F := F)) Variants.none c none) E
          (bodyOn i arg2 harg2 arg3 harg3 arg4 harg4 arg5 harg5 arg6 harg6 arg7 harg7 arg8 harg8 arg9 harg9 arg10 harg10 arg11 harg11
            arg12 harg12 arg13 harg13 arg14 harg14) K := by
  unfold bodyOn
  simp only [cc0__fused_body_eq_skeleton]; unfold cc0__fused_body_skel; simp only [k0_part1_eq_skeleton, k0_part2_eq_skeleton]; unfold k0_part1_skel k0_part2_skel
  unfold owns
  iintro ⟨⟨%f4, %hf4, H4⟩, ⟨%f6, %hf6, H6⟩, ⟨%f7, %hf7, H7⟩, ⟨%f12, %hf12, H12⟩, ⟨%f13, %hf13, H13⟩, ⟨%f14, %hf14, H14⟩, Hk⟩
  subst hf4 hf6 hf7 hf12 hf13 hf14
  sl_exec (disch := first | sl_exact h1 | sl_exact h4 | sl_exact h7 | sl_exact hf | sl_exact hl)
  sl_step
  iapply Hk
  isplitl [H4]
  · iexists _; isplitr
    swap; · iexact H4
    ipureintro
    rfl
  isplitl [H6]
  · iexists _; isplitr
    swap; · iexact H6
    ipureintro
    rfl
  isplitl [H7]
  · iexists _; isplitr
    swap; · iexact H7
    ipureintro
    rfl
  isplitl [H12]
  · iexists _; isplitr
    swap; · iexact H12
    ipureintro
    rw [View.read_writes_cons_put _ _ _ _ _ rfl]
    sl_unfold_run_names
    simp only [View.writes_nil, rdX, rdW, rdV, rdS, rdO]
  isplitl [H13]
  · iexists _; isplitr
    swap; · iexact H13
    ipureintro
    rfl
  iexists _; isplitr
  swap; · iexact H14
  ipureintro
  rw [View.read_writes_full]
  sl_unfold_run_names
  simp only [rdX, rdW, rdV, rdS, rdO]

set_option maxHeartbeats 400000 in
/-- Phase 1 at a later tile: the tile's rows are replaced by the second product, its statistics are added. -/
theorem run1_later (h1 : ¬ k0_cond1 i = 1#1) (h4 : k0_cond4 i = 1#1) (h7 : ¬ k0_cond7 i = 1#1) (hf : ¬ firstW i = 1#1) (hl : laterW i = 1#1)
    (w2 : Vec F S128x128 .f32) (g : Vec F S1x128 .f32) (be : Vec F S1x128 .f32) (O : Vec F S100000x128 .bf16) (s1 : Vec F S2x128 .f32) (s2 : Vec F S2x128 .f32) (K : PUnit → sProp 𝕄) :
    iprop(owns (c : Thread nD τ) arg4 fullShare w2
        ∗ owns (c : Thread nD τ) arg6 fullShare g
        ∗ owns (c : Thread nD τ) arg7 fullShare be
        ∗ owns (c : Thread nD τ) arg12 fullShare O
        ∗ owns (c : Thread nD τ) arg13 fullShare s1
        ∗ owns (c : Thread nD τ) arg14 fullShare s2
        ∗ (iprop(owns (c : Thread nD τ) arg4 fullShare w2
            ∗ owns (c : Thread nD τ) arg6 fullShare g
            ∗ owns (c : Thread nD τ) arg7 fullShare be
            ∗ owns (c : Thread nD τ) arg12 fullShare (VecWindow.put O (k0_off2 i) S10000x128.size (k0_pay11 s1 g be (VecWindow.window O (k0_off2 i) S10000x128.size (k0_off2_inb i h4)) w2))
            ∗ owns (c : Thread nD τ) arg13 fullShare s1
            ∗ owns (c : Thread nD τ) arg14 fullShare (k0_pay4 (k0_pay10 s1 g be (VecWindow.window O (k0_off2 i) S10000x128.size (k0_off2_inb i h4)) w2) (k0_pay12 s1 g be (VecWindow.window O (k0_off2 i) S10000x128.size (k0_off2_inb i h4)) w2) s2)) -∗ K ⟨⟩))
      ⊢ wp frame (wpE (defs₀ (F := F)) Variants.none c none) E
          (bodyOn i arg2 harg2 arg3 harg3 arg4 harg4 arg5 harg5 arg6 harg6 arg7 harg7 arg8 harg8 arg9 harg9 arg10 harg10 arg11 harg11
            arg12 harg12 arg13 harg13 arg14 harg14) K := by
  unfold bodyOn
  simp only [cc0__fused_body_eq_skeleton]; unfold cc0__fused_body_skel; simp only [k0_part1_eq_skeleton, k0_part2_eq_skeleton]; unfold k0_part1_skel k0_part2_skel
  unfold owns
  iintro ⟨⟨%f4, %hf4, H4⟩, ⟨%f6, %hf6, H6⟩, ⟨%f7, %hf7, H7⟩, ⟨%f12, %hf12, H12⟩, ⟨%f13, %hf13, H13⟩, ⟨%f14, %hf14, H14⟩, Hk⟩
  subst hf4 hf6 hf7 hf12 hf13 hf14
  sl_exec (disch := first | sl_exact h1 | sl_exact h4 | sl_exact h7 | sl_exact hf | sl_exact hl)
  sl_step
  iapply Hk
  isplitl [H4]
  · iexists _; isplitr
    swap; · iexact H4
    ipureintro
    rfl
  isplitl [H6]
  · iexists _; isplitr
    swap; · iexact H6
    ipureintro
    rfl
  isplitl [H7]
  · iexists _; isplitr
    swap; · iexact H7
    ipureintro
    rfl
  isplitl [H12]
  · iexists _; isplitr
    swap; · iexact H12
    ipureintro
    rw [View.read_writes_cons_put _ _ _ _ _ rfl]
    sl_unfold_run_names
    simp only [View.writes_nil, rdX, rdW, rdV, rdS, rdO]
  isplitl [H13]
  · iexists _; isplitr
    swap; · iexact H13
    ipureintro
    rfl
  iexists _; isplitr
  swap; · iexact H14
  ipureintro
  rw [View.read_writes_full]
  sl_unfold_run_names
  simp only [rdX, rdW, rdV, rdS, rdO]

set_option maxHeartbeats 400000 in
/-- Phase 2: the output tile is computed from the tile's rows of the scratch and the second statistics. -/
theorem run2 (h1 : ¬ k0_cond1 i = 1#1) (h4 : ¬ k0_cond4 i = 1#1) (h7 : k0_cond7 i = 1#1)
    (w3 : Vec F S128x128 .f32) (g : Vec F S1x128 .f32) (be : Vec F S1x128 .f32) (b3 : Vec F S1x128 .f32) (y : Vec F S10000x128 .f32) (O : Vec F S100000x128 .bf16) (s2 : Vec F S2x128 .f32) (K : PUnit → sProp 𝕄) :
    iprop(owns (c : Thread nD τ) arg5 fullShare w3
        ∗ owns (c : Thread nD τ) arg8 fullShare g
        ∗ owns (c : Thread nD τ) arg9 fullShare be
        ∗ owns (c : Thread nD τ) arg10 fullShare b3
        ∗ owns (c : Thread nD τ) arg11 fullShare y
        ∗ owns (c : Thread nD τ) arg12 fullShare O
        ∗ owns (c : Thread nD τ) arg14 fullShare s2
        ∗ (iprop(owns (c : Thread nD τ) arg5 fullShare w3
            ∗ owns (c : Thread nD τ) arg8 fullShare g
            ∗ owns (c : Thread nD τ) arg9 fullShare be
            ∗ owns (c : Thread nD τ) arg10 fullShare b3
            ∗ owns (c : Thread nD τ) arg11 fullShare (k0_pay5 s2 g be (VecWindow.window O (k0_off3 i) S10000x128.size (k0_off3_inb i h7)) w3 b3)
            ∗ owns (c : Thread nD τ) arg12 fullShare O
            ∗ owns (c : Thread nD τ) arg14 fullShare s2) -∗ K ⟨⟩))
      ⊢ wp frame (wpE (defs₀ (F := F)) Variants.none c none) E
          (bodyOn i arg2 harg2 arg3 harg3 arg4 harg4 arg5 harg5 arg6 harg6 arg7 harg7 arg8 harg8 arg9 harg9 arg10 harg10 arg11 harg11
            arg12 harg12 arg13 harg13 arg14 harg14) K := by
  unfold bodyOn
  simp only [cc0__fused_body_eq_skeleton]; unfold cc0__fused_body_skel; simp only [k0_part1_eq_skeleton, k0_part2_eq_skeleton]; unfold k0_part1_skel k0_part2_skel
  unfold owns
  iintro ⟨⟨%f5, %hf5, H5⟩, ⟨%f8, %hf8, H8⟩, ⟨%f9, %hf9, H9⟩, ⟨%f10, %hf10, H10⟩, ⟨%f11, %hf11, H11⟩, ⟨%f12, %hf12, H12⟩, ⟨%f14, %hf14, H14⟩, Hk⟩
  subst hf5 hf8 hf9 hf10 hf11 hf12 hf14
  sl_exec (disch := first | sl_exact h1 | sl_exact h4 | sl_exact h7)
  sl_step
  iapply Hk
  isplitl [H5]
  · iexists _; isplitr
    swap; · iexact H5
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    rfl
  isplitl [H11]
  · iexists _; isplitr
    swap; · iexact H11
    ipureintro
    rw [View.read_writes_full]
    sl_unfold_run_names
    simp only [rdX, rdW, rdV, rdS, rdO]
  isplitl [H12]
  · iexists _; isplitr
    swap; · iexact H12
    ipureintro
    rfl
  iexists _; isplitr
  swap; · iexact H14
  ipureintro
  rfl

end Cert.KernelIdeal.Body

end
-- ==== Proof.State.lean ====
/-
  What the kernel's scratch holds before each grid point, and what each output tile is: the values the three phases
  compute, tile by tile, over the payload names of the printed body, and the invariant that carries them from a point
  to the next. Everything here is a statement about arrays; the run is in `Body.lean`.
-/
module

public import proofs.«01_k».proof.Proof.Triples

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F] [Named F]
variable (m : (ℓ : Loc nD τ sig) → Buf (Elt F) ℓ) (c : Dev nD)

/-- The grid's point of a number, the three phases one after another. -/
def pt (n : ℕ) : Fin cfg0.N := ⟨n % 30, by show n % 30 < grid0.N; rw [N_0]; omega⟩

/-! ## The operands' blocks -/

/-- Rows `10000 j …` of the input. -/
def X (j : ℕ) : Vec F S10000x128 .f32 := iblk m c 0 (pt j)
/-- The first weight. -/
def W1 : Vec F S128x128 .f32 := iblk m c 1 (pt 0)
/-- The second weight. -/
def W2 : Vec F S128x128 .f32 := iblk m c 2 (pt 0)
/-- The third weight. -/
def W3 : Vec F S128x128 .f32 := iblk m c 3 (pt 0)
/-- The first normalisation's gain. -/
def G1 : Vec F S1x128 .f32 := iblk m c 4 (pt 0)
/-- The first normalisation's shift. -/
def B1 : Vec F S1x128 .f32 := iblk m c 5 (pt 0)
/-- The second normalisation's gain. -/
def G2 : Vec F S1x128 .f32 := iblk m c 6 (pt 0)
/-- The second normalisation's shift. -/
def B2 : Vec F S1x128 .f32 := iblk m c 7 (pt 0)
/-- The last bias. -/
def B3 : Vec F S1x128 .f32 := iblk m c 8 (pt 0)

/-! ## The values the phases compute -/

/-- Tile `j` of the first product, as the scratch keeps it. -/
def o1 (j : ℕ) : Vec F S10000x128 .bf16 := k0_pay7 (X m c j) (W1 m c)

/-- The first statistics after tile `n`. -/
def acc1 : ℕ → Vec F S2x128 .f32
  | 0 => k0_pay9 (X m c 0) (W1 m c)
  | n + 1 => k0_pay1 (k0_pay8 (X m c (n + 1)) (W1 m c)) (acc1 n)

/-- Tile `j` of the second product. -/
def o2f (j : ℕ) : Vec F S10000x128 .f32 := k0_pay10 (acc1 m c 9) (G1 m c) (B1 m c) (o1 m c j) (W2 m c)
/-- The same as the scratch keeps it. -/
def o2 (j : ℕ) : Vec F S10000x128 .bf16 := k0_pay11 (acc1 m c 9) (G1 m c) (B1 m c) (o1 m c j) (W2 m c)
/-- Its rows summed down to 2500. -/
def o2q (j : ℕ) : Vec F S2500x128 .f32 := k0_pay12 (acc1 m c 9) (G1 m c) (B1 m c) (o1 m c j) (W2 m c)

/-- The second statistics after tile `n`. -/
def acc2 : ℕ → Vec F S2x128 .f32
  | 0 => k0_pay3 (o2f m c 0) (o2q m c 0)
  | n + 1 => k0_pay4 (o2f m c (n + 1)) (o2q m c (n + 1)) (acc2 n)

/-- Tile `j` of the output. -/
def out (j : ℕ) : Vec F S10000x128 .f32 := k0_pay5 (acc2 m c 9) (G2 m c) (B2 m c) (o2 m c j) (W3 m c) (B3 m c)

/-! ## The invariant -/

/-- What the scratch holds before point `n`: the rows a phase has stored, and the statistics once they are begun. -/
structure Inv (n : ℕ) (O : Vec F S100000x128 .bf16) (s1 s2 : Vec F S2x128 .f32) : Prop where
  rows1 : ∀ (j : ℕ) (h : ∀ a, (![10000 * j, 0] : Fin 2 → ℕ) a + S10000x128.size a ≤ S100000x128.size a), j < n → n ≤ 10 + j →
    VecWindow.window O ![10000 * j, 0] S10000x128.size h = o1 m c j
  rows2 : ∀ (j : ℕ) (h : ∀ a, (![10000 * j, 0] : Fin 2 → ℕ) a + S10000x128.size a ≤ S100000x128.size a), 10 + j < n →
    VecWindow.window O ![10000 * j, 0] S10000x128.size h = o2 m c j
  stat1 : 0 < n → s1 = acc1 m c (min (n - 1) 9)
  stat2 : 10 < n → s2 = acc2 m c (min (n - 11) 9)

/-- Before the first point nothing is asked. -/
theorem Inv.zero (O : Vec F S100000x128 .bf16) (s1 s2 : Vec F S2x128 .f32) : Inv m c 0 O s1 s2 :=
  ⟨fun _ _ h => absurd h (Nat.not_lt_zero _), fun _ _ h => absurd h (Nat.not_lt_zero _), fun h => absurd h (Nat.lt_irrefl _),
    fun h => absurd h (Nat.not_lt_zero _)⟩

/-- Another tile's rows are not touched by a store into tile `n`. -/
theorem window_put_other (O : Vec F S100000x128 .bf16) (n j : ℕ) (hne : j ≠ n) (w : Vec F S10000x128 .bf16)
    (h : ∀ a, (![10000 * j, 0] : Fin 2 → ℕ) a + S10000x128.size a ≤ S100000x128.size a) :
    VecWindow.window (VecWindow.put O ![10000 * n, 0] S10000x128.size w) ![10000 * j, 0] S10000x128.size h
      = VecWindow.window O ![10000 * j, 0] S10000x128.size h :=
  VecWindow.window_put_of_disjoint O _ _ _ _ h w 0 (by
    show 10000 * j + 10000 ≤ 10000 * n ∨ 10000 * n + 10000 ≤ 10000 * j
    omega)

/-- A tile's number is below ten. -/
theorem tile_lt {j : ℕ} (h : ∀ a, (![10000 * j, 0] : Fin 2 → ℕ) a + S10000x128.size a ≤ S100000x128.size a) : j < 10 := by
  have := h 0
  have : 10000 * j + 10000 ≤ 100000 := this
  omega

/-- A point of phase 0: the tile's rows are stored and the first statistics move on. -/
theorem Inv.step0 {n : ℕ} {O : Vec F S100000x128 .bf16} {s1 s2 s1' : Vec F S2x128 .f32} (H : Inv m c n O s1 s2) (hn : n < 10)
    (hs : s1' = acc1 m c n) : Inv m c (n + 1) (VecWindow.put O ![10000 * n, 0] S10000x128.size (o1 m c n)) s1' s2 where
  rows1 j h hj _ := by
    rcases Nat.lt_succ_iff_lt_or_eq.mp hj with hlt | rfl
    · rw [window_put_other O n j (by omega)]
      exact H.rows1 j h hlt (by omega)
    · exact VecWindow.window_put_same O _ _ h _
  rows2 j h hj := by omega
  stat1 _ := by rw [hs]; congr 1; omega
  stat2 h := by omega

/-- A point of phase 1: the tile's rows are replaced and the second statistics move on. -/
theorem Inv.step1 {n : ℕ} {O : Vec F S100000x128 .bf16} {s1 s2 s2' : Vec F S2x128 .f32} (H : Inv m c (10 + n) O s1 s2) (hn : n < 10)
    (hs : s2' = acc2 m c n) : Inv m c (10 + n + 1) (VecWindow.put O ![10000 * n, 0] S10000x128.size (o2 m c n)) s1 s2' where
  rows1 j h hj hj' := by
    rw [window_put_other O n j (by omega)]
    exact H.rows1 j h (by have := tile_lt h; omega) (by omega)
  rows2 j h hj := by
    rcases Nat.lt_succ_iff_lt_or_eq.mp (show j < n + 1 by omega) with hlt | rfl
    · rw [window_put_other O n j (by omega)]
      exact H.rows2 j h (by omega)
    · exact VecWindow.window_put_same O _ _ h _
  stat1 _ := by rw [H.stat1 (by omega)]; congr 1; omega
  stat2 _ := by rw [hs]; congr 1; omega

/-- A point of phase 2 leaves the scratch as it is. -/
theorem Inv.step2 {n : ℕ} {O : Vec F S100000x128 .bf16} {s1 s2 : Vec F S2x128 .f32} (H : Inv m c (20 + n) O s1 s2) :
    Inv m c (20 + n + 1) O s1 s2 where
  rows1 j h hj hj' := by have := tile_lt h; omega
  rows2 j h hj := H.rows2 j h (by have := tile_lt h; omega)
  stat1 _ := by rw [H.stat1 (by omega)]; congr 1; omega
  stat2 _ := by rw [H.stat2 (by omega)]; congr 1; omega

/-- The first statistics as phase 1 finds them. -/
theorem Inv.s1_eq {n : ℕ} {O : Vec F S100000x128 .bf16} {s1 s2 : Vec F S2x128 .f32} (H : Inv m c n O s1 s2) (hn : 10 ≤ n) :
    s1 = acc1 m c 9 := by
  rw [H.stat1 (by omega)]; congr 1; omega

/-- The second statistics as phase 2 finds them. -/
theorem Inv.s2_eq {n : ℕ} {O : Vec F S100000x128 .bf16} {s1 s2 : Vec F S2x128 .f32} (H : Inv m c n O s1 s2) (hn : 20 ≤ n) :
    s2 = acc2 m c 9 := by
  rw [H.stat2 (by omega)]; congr 1; omega

/-! ## The grid -/

/-- A point's phase and tile. -/
theorem coords_val : ∀ t : Fin grid0.N, (grid0.coords t 0).val = t.val / 10 ∧ (grid0.coords t 1).val = t.val % 10 := by decide +kernel
/-- Phase 0 is the first ten points. -/
theorem cond1_iff : ∀ t : Fin grid0.N, k0_cond1 (grid0.coords t) = 1#1 ↔ t.val < 10 := by decide +kernel
/-- Phase 1 is the next ten. -/
theorem cond4_iff : ∀ t : Fin grid0.N, k0_cond4 (grid0.coords t) = 1#1 ↔ 10 ≤ t.val ∧ t.val < 20 := by decide +kernel
/-- Phase 2 is the last ten. -/
theorem cond7_iff : ∀ t : Fin grid0.N, k0_cond7 (grid0.coords t) = 1#1 ↔ 20 ≤ t.val := by decide +kernel
/-- The first branch on the tile's number. -/
theorem firstW_iff : ∀ t : Fin grid0.N, firstW (grid0.coords t) = 1#1 ↔ t.val % 10 = 0 := by decide +kernel
/-- The opposite branch. -/
theorem laterW_iff : ∀ t : Fin grid0.N, laterW (grid0.coords t) = 1#1 ↔ ¬ t.val % 10 = 0 := by decide +kernel
/-- The output window is written back at the last ten points. -/
theorem flush9 : ∀ t : Fin grid0.N, (cfg0.win 9).flush t = decide (20 ≤ t.val) := by decide +kernel
/-- It is idle before them. -/
theorem idle9 : ∀ t : Fin grid0.N, idle0 9 (grid0.coords t) = decide (t.val < 20) := by decide +kernel

/-- Every window but the first and the last stays on one block. -/
theorem X_eq (t : Fin cfg0.N) (n : ℕ) (hn : n % 30 = t.val) : iblk m c 0 t = X m c n := by
  obtain rfl : t = pt n := Fin.ext hn.symm
  rfl
theorem W1_eq (t : Fin cfg0.N) : iblk m c 1 t = W1 m c := rfl
theorem W2_eq (t : Fin cfg0.N) : iblk m c 2 t = W2 m c := rfl
theorem W3_eq (t : Fin cfg0.N) : iblk m c 3 t = W3 m c := rfl
theorem G1_eq (t : Fin cfg0.N) : iblk m c 4 t = G1 m c := rfl
theorem B1_eq (t : Fin cfg0.N) : iblk m c 5 t = B1 m c := rfl
theorem G2_eq (t : Fin cfg0.N) : iblk m c 6 t = G2 m c := rfl
theorem B2_eq (t : Fin cfg0.N) : iblk m c 7 t = B2 m c := rfl
theorem B3_eq (t : Fin cfg0.N) : iblk m c 8 t = B3 m c := rfl

end Cert.KernelIdeal.Body

end
-- ==== Proof.Body.lean ====
/-
  The body obligation at each grid point under the invariant of `State.lean`, and the run it gives: the program
  terminates, its arguments are unchanged, its counters end at zero, and the output array is the tiles of `State.lean`.
-/
module

public import proofs.«01_k».proof.Proof.State
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## A point's step of the invariant, over the words the triples use -/

/-- A point of phase 0. -/
theorem step0 (t : Fin grid0.N) {O : Vec F S100000x128 .bf16} {s1 s2 s1' : Vec F S2x128 .f32} (H : Inv m c t.val O s1 s2) (ht : t.val < 10)
    (hs : s1' = acc1 m c t.val) :
    Inv m c (t.val + 1) (VecWindow.put O (k0_off1 (grid0.coords t)) S10000x128.size (k0_pay7 (X m c t.val) (W1 m c))) s1' s2 := by
  have e : k0_off1 (grid0.coords t) = ![10000 * t.val, 0] := by rw [k0_off1_eq, (coords_val t).2, Nat.mod_eq_of_lt ht]
  rw [e]
  exact H.step0 m c ht hs

/-- The window phase 1 reads. -/
theorem window1 (t : Fin grid0.N) {O : Vec F S100000x128 .bf16} {s1 s2 : Vec F S2x128 .f32} (H : Inv m c t.val O s1 s2)
    (ht : 10 ≤ t.val ∧ t.val < 20) (inb) : VecWindow.window O (k0_off2 (grid0.coords t)) S10000x128.size inb = o1 m c (t.val - 10) := by
  have e : k0_off2 (grid0.coords t) = ![10000 * (t.val - 10), 0] := by
    rw [k0_off2_eq, (coords_val t).2, show t.val % 10 = t.val - 10 by omega]
  revert inb
  rw [e]
  exact fun inb => H.rows1 _ inb (by omega) (by omega)

/-- A point of phase 1. -/
theorem step1 (t : Fin grid0.N) {O : Vec F S100000x128 .bf16} {s1 s2 s2' : Vec F S2x128 .f32} (H : Inv m c t.val O s1 s2)
    (ht : 10 ≤ t.val ∧ t.val < 20) (hs : s2' = acc2 m c (t.val - 10)) :
    Inv m c (t.val + 1) (VecWindow.put O (k0_off2 (grid0.coords t)) S10000x128.size (o2 m c (t.val - 10))) s1 s2' := by
  have e : k0_off2 (grid0.coords t) = ![10000 * (t.val - 10), 0] := by
    rw [k0_off2_eq, (coords_val t).2, show t.val % 10 = t.val - 10 by omega]
  rw [e]
  obtain ⟨n, hn⟩ : ∃ n, t.val = 10 + n := ⟨t.val - 10, by omega⟩
  rw [hn] at H ⊢
  rw [hn] at hs
  rw [show 10 + n - 10 = n by omega] at hs ⊢
  exact H.step1 m c (by omega) hs

/-- The window phase 2 reads. -/
theorem window2 (t : Fin grid0.N) {O : Vec F S100000x128 .bf16} {s1 s2 : Vec F S2x128 .f32} (H : Inv m c t.val O s1 s2)
    (ht : 20 ≤ t.val) (inb) : VecWindow.window O (k0_off3 (grid0.coords t)) S10000x128.size inb = o2 m c (t.val - 20) := by
  have hN : t.val < 30 := lt_of_lt_of_eq t.isLt N_0
  have e : k0_off3 (grid0.coords t) = ![10000 * (t.val - 20), 0] := by
    rw [k0_off3_eq, (coords_val t).2, show t.val % 10 = t.val - 20 by omega]
  revert inb
  rw [e]
  exact fun inb => H.rows2 _ inb (by omega)

/-- A point of phase 2. -/
theorem step2 (t : Fin grid0.N) {O : Vec F S100000x128 .bf16} {s1 s2 : Vec F S2x128 .f32} (H : Inv m c t.val O s1 s2) (ht : 20 ≤ t.val) :
    Inv m c (t.val + 1) O s1 s2 := by
  obtain ⟨n, hn⟩ : ∃ n, t.val = 20 + n := ⟨t.val - 20, by omega⟩
  rw [hn] at H ⊢
  exact H.step2 m c

/-- The first statistics at a later point of phase 0. -/
theorem stat_later0 {n : ℕ} {O : Vec F S100000x128 .bf16} {s1 s2 : Vec F S2x128 .f32} (hn : 0 < n ∧ n < 10) (H : Inv m c n O s1 s2) :
    k0_pay1 (k0_pay8 (X m c n) (W1 m c)) s1 = acc1 m c n := by
  obtain ⟨k, rfl⟩ : ∃ k, n = k + 1 := ⟨n - 1, by omega⟩
  rw [H.stat1 (by omega), show min (k + 1 - 1) 9 = k by omega]
  rfl

/-- The invariant after phase 1's first point. -/
theorem phase1_first (t : Fin grid0.N) (ht : t.val = 10) {O : Vec F S100000x128 .bf16} {s1 s2 : Vec F S2x128 .f32} (H : Inv m c t.val O s1 s2) (inb) :
    Inv m c (t.val + 1) (VecWindow.put O (k0_off2 (grid0.coords t)) S10000x128.size
        (k0_pay11 s1 (G1 m c) (B1 m c) (VecWindow.window O (k0_off2 (grid0.coords t)) S10000x128.size inb) (W2 m c))) s1
      (k0_pay3 (k0_pay10 s1 (G1 m c) (B1 m c) (VecWindow.window O (k0_off2 (grid0.coords t)) S10000x128.size inb) (W2 m c))
        (k0_pay12 s1 (G1 m c) (B1 m c) (VecWindow.window O (k0_off2 (grid0.coords t)) S10000x128.size inb) (W2 m c))) := by
  have hs := H.s1_eq m c (by omega)
  rw [window1 m c t H (by omega)]
  subst hs
  exact step1 m c t H (by omega) (by rw [ht]; rfl)

/-- The invariant after a later point of phase 1. -/
theorem phase1_later (t : Fin grid0.N) (ht : 10 < t.val ∧ t.val < 20) {O : Vec F S100000x128 .bf16} {s1 s2 : Vec F S2x128 .f32} (H : Inv m c t.val O s1 s2) (inb) :
    Inv m c (t.val + 1) (VecWindow.put O (k0_off2 (grid0.coords t)) S10000x128.size
        (k0_pay11 s1 (G1 m c) (B1 m c) (VecWindow.window O (k0_off2 (grid0.coords t)) S10000x128.size inb) (W2 m c))) s1
      (k0_pay4 (k0_pay10 s1 (G1 m c) (B1 m c) (VecWindow.window O (k0_off2 (grid0.coords t)) S10000x128.size inb) (W2 m c))
        (k0_pay12 s1 (G1 m c) (B1 m c) (VecWindow.window O (k0_off2 (grid0.coords t)) S10000x128.size inb) (W2 m c)) s2) := by
  have hs := H.s1_eq m c (by omega)
  rw [window1 m c t H (by omega)]
  subst hs
  refine step1 m c t H (by omega) ?_
  rw [H.stat2 (by omega)]
  obtain ⟨k, hk⟩ : ∃ k, t.val = k + 11 := ⟨t.val - 11, by omega⟩
  rw [hk, show min (k + 11 - 11) 9 = k by omega, show k + 11 - 10 = k + 1 by omega]
  rfl

/-- The tile a point of phase 2 stores. -/
theorem tile_eq (t : Fin grid0.N) {O : Vec F S100000x128 .bf16} {s1 s2 : Vec F S2x128 .f32} (H : Inv m c t.val O s1 s2) (ht : 20 ≤ t.val) (inb) :
    k0_pay5 s2 (G2 m c) (B2 m c) (VecWindow.window O (k0_off3 (grid0.coords t)) S10000x128.size inb) (W3 m c) (B3 m c) = out m c (t.val - 20) := by
  rw [window2 m c t H ht, H.s2_eq m c ht]
  rfl

/-! ## The launch's data -/

/-- What is carried between points: the scratch under the invariant, and the generator's register. -/
def carried (n : ℕ) : sProp 𝕄 :=
  iprop(∃ O s1 s2, ⌜Inv m c n O s1 s2⌝ ∗ owns (c : Thread nD τ) (Memref.whole cc0_scratch0) fullShare O
    ∗ owns (c : Thread nD τ) (Memref.whole cc0_scratch1) fullShare s1 ∗ owns (c : Thread nD τ) (Memref.whole cc0_scratch2) fullShare s2
    ∗ ∃ r, prngReg c r)

/-- The arrays at the region's entry, every input's staging buffer left at its block, the output's at its tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out m c (t.val - 20)
  Φ t := carried m c t.val
  q _ := fullShare
  owed _ := 0

/-- The data's arrays are the entry contents. -/
theorem A_eq (c : Dev nD) (w : Fin cfg0.W) : (dats m 0 c).A w = V m c (Pipeline.arrRef spec0 w) := by dsimp only [dats]

/-- What is carried before a point, by the point's number. -/
theorem Φ_castSucc (c : Dev nD) (t : Fin cfg0.N) : (dats m 0 c).Φ t.castSucc = carried m c t.val := by
  dsimp only [dats]; exact Pipeline.Dat.Φ_castSucc (fun n _ => carried m c n) t
/-- What is carried after it. -/
theorem Φ_succ (c : Dev nD) (t : Fin cfg0.N) : (dats m 0 c).Φ t.succ = carried m c (t.val + 1) := by
  dsimp only [dats]; rfl

/-- Window 0 is found at its block and left there. -/
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d

/-- Window 1 is found at its block and left there. -/
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d

/-- Window 2 is found at its block and left there. -/
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

/-- Window 3 is found at its block and left there. -/
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d

/-- Window 4 is found at its block and left there. -/
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

/-- Window 5 is found at its block and left there. -/
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d

/-- Window 6 is found at its block and left there. -/
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

/-- Window 7 is found at its block and left there. -/
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d

/-- Window 8 is found at its block and left there. -/
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d

/-- Window 9 is left at the output's tile. -/
theorem after0_9 (c : Dev nD) (t : Fin cfg0.N) : (dats m 0 c).after 9 t = out m c (t.val - 20) := by dsimp only [dats]

/-! ## The body at a point -/

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it leaves, the output window apart. -/
def bodyPost (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ R)

/-- The output window's buffer handed back as it was given. -/
def kept (c : Dev nD) (t : Fin cfg0.N) : sProp 𝕄 := iprop(∃ d, owns (c : Thread nD τ) (st0_9 t) fullShare ((dats m 0 c).before 9 t d))
/-- The output window's buffer at the tile. -/
def left (c : Dev nD) (t : Fin cfg0.N) : sProp 𝕄 := owns (c : Thread nD τ) (st0_9 t) fullShare ((dats m 0 c).after 9 t)

/-- Phase 0's first point. -/
theorem sound0_first (c : Dev nD) (t : Fin cfg0.N) (ht : t.val = 0) :
    bodyPre m c t ⊢ wp frame (wpE (defs₀ (F := F)) Variants.none c none) Set.univ (bodyAt0 t) (fun _ => bodyPost m c t (kept m c t)) := by
  have hN : t.val < 30 := lt_of_lt_of_eq t.isLt N_0
  have hX : iblk m c 0 t = X m c t.val := X_eq m c t t.val (Nat.mod_eq_of_lt hN)
  have h1 : k0_cond1 (grid0.coords t) = 1#1 := (cond1_iff t).mpr (by omega)
  have h4 : ¬ k0_cond4 (grid0.coords t) = 1#1 := fun h => by have := (cond4_iff t).mp h; omega
  have h7 : ¬ k0_cond7 (grid0.coords t) = 1#1 := fun h => by have := (cond7_iff t).mp h; omega
  have hf : firstW (grid0.coords t) = 1#1 := (firstW_iff t).mpr (by omega)
  have hl : ¬ laterW (grid0.coords t) = 1#1 := fun h => (laterW_iff t).mp h (by omega)
  unfold bodyPre bodyPost
  rw [Φ_castSucc, Φ_succ]
  simp only [before0_0, before0_1, before0_2, before0_3, before0_4, before0_5, before0_6, before0_7, before0_8, hX, W1_eq, W2_eq, W3_eq, G1_eq, B1_eq, G2_eq, B2_eq, B3_eq]
  rw [show (dats m 0 c).owesAt () t.succ = (dats m 0 c).owesAt () t.castSucc from rfl, after0_0, after0_1, after0_2, after0_3, after0_4, after0_5, after0_6, after0_7, after0_8, hX, W1_eq, W2_eq, W3_eq, G1_eq, B1_eq, G2_eq, B2_eq, B3_eq]
  unfold carried
  iintro ⟨⟨%O, %s1, %s2, %HI, Ha, Hb, Hc, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run0_first c Set.univ (grid0.coords t) _ _ _ _ _ _ _ _ _ _ _ _ _ _ _ _ _ _ _ _ _ _ _ _ _ _ h1 h4 h7 hf hl _ _ _ _ _)
  isplitl [H0]; · iexact H0
  isplitl [H1]; · iexact H1
  isplitl [Ha]; · iexact Ha
  isplitl [Hb]; · iexact Hb
  iintro ⟨H0, H1, Ha, Hb⟩
  isplitl [Ha Hb Hc Hp]
  · iexists _; iexists _; iexists _; isplitr
    swap
    · isplitl [Ha]; · iexact Ha
      isplitl [Hb]; · iexact Hb
      isplitl [Hc]; · iexact Hc
      iexact Hp
    ipureintro; exact step0 m c t HI (by omega) (by rw [ht]; rfl)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold kept; iexists d9; iexact H9

/-- Phase 0's later points. -/
theorem sound0_later (c : Dev nD) (t : Fin cfg0.N) (ht : 0 < t.val ∧ t.val < 10) :
    bodyPre m c t ⊢ wp frame (wpE (defs₀ (F := F)) Variants.none c none) Set.univ (bodyAt0 t) (fun _ => bodyPost m c t (kept m c t)) := by
  have hN : t.val < 30 := lt_of_lt_of_eq t.isLt N_0
  have hX : iblk m c 0 t = X m c t.val := X_eq m c t t.val (Nat.mod_eq_of_lt hN)
  have h1 : k0_cond1 (grid0.coords t) = 1#1 := (cond1_iff t).mpr (by omega)
  have h4 : ¬ k0_cond4 (grid0.coords t) = 1#1 := fun h => by have := (cond4_iff t).mp h; omega
  have h7 : ¬ k0_cond7 (grid0.coords t) = 1#1 := fun h => by have := (cond7_iff t).mp h; omega
  have hf : ¬ firstW (grid0.coords t) = 1#1 := fun h => absurd ((firstW_iff t).mp h) (by omega)
  have hl : laterW (grid0.coords t) = 1#1 := (laterW_iff t).mpr (by omega)
  unfold bodyPre bodyPost
  rw [Φ_castSucc, Φ_succ]
  simp only [before0_0, before0_1, before0_2, before0_3, before0_4, before0_5, before0_6, before0_7, before0_8, hX, W1_eq, W2_eq, W3_eq, G1_eq, B1_eq, G2_eq, B2_eq, B3_eq]
  rw [show (dats m 0 c).owesAt () t.succ = (dats m 0 c).owesAt () t.castSucc from rfl, after0_0, after0_1, after0_2, after0_3, after0_4, after0_5, after0_6, after0_7, after0_8, hX, W1_eq, W2_eq, W3_eq, G1_eq, B1_eq, G2_eq, B2_eq, B3_eq]
  unfold carried
  iintro ⟨⟨%O, %s1, %s2, %HI, Ha, Hb, Hc, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run0_later c Set.univ (grid0.coords t) _ _ _ _ _ _ _ _ _ _ _ _ _ _ _ _ _ _ _ _ _ _ _ _ _ _ h1 h4 h7 hf hl _ _ _ _ _)
  isplitl [H0]; · iexact H0
  isplitl [H1]; · iexact H1
  isplitl [Ha]; · iexact Ha
  isplitl [Hb]; · iexact Hb
  iintro ⟨H0, H1, Ha, Hb⟩
  isplitl [Ha Hb Hc Hp]
  · iexists _; iexists _; iexists _; isplitr
    swap
    · isplitl [Ha]; · iexact Ha
      isplitl [Hb]; · iexact Hb
      isplitl [Hc]; · iexact Hc
      iexact Hp
    ipureintro; exact step0 m c t HI (by omega) (stat_later0 m c ht HI)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold kept; iexists d9; iexact H9

/-- Phase 1's first point. -/
theorem sound1_first (c : Dev nD) (t : Fin cfg0.N) (ht : t.val = 10) :
    bodyPre m c t ⊢ wp frame (wpE (defs₀ (F := F)) Variants.none c none) Set.univ (bodyAt0 t) (fun _ => bodyPost m c t (kept m c t)) := by
  have hN : t.val < 30 := lt_of_lt_of_eq t.isLt N_0
  have hX : iblk m c 0 t = X m c t.val := X_eq m c t t.val (Nat.mod_eq_of_lt hN)
  have h1 : ¬ k0_cond1 (grid0.coords t) = 1#1 := fun h => by have := (cond1_iff t).mp h; omega
  have h4 : k0_cond4 (grid0.coords t) = 1#1 := (cond4_iff t).mpr (by omega)
  have h7 : ¬ k0_cond7 (grid0.coords t) = 1#1 := fun h => by have := (cond7_iff t).mp h; omega
  have hf : firstW (grid0.coords t) = 1#1 := (firstW_iff t).mpr (by omega)
  have hl : ¬ laterW (grid0.coords t) = 1#1 := fun h => (laterW_iff t).mp h (by omega)
  unfold bodyPre bodyPost
  rw [Φ_castSucc, Φ_succ]
  simp only [before0_0, before0_1, before0_2, before0_3, before0_4, before0_5, before0_6, before0_7, before0_8, hX, W1_eq, W2_eq, W3_eq, G1_eq, B1_eq, G2_eq, B2_eq, B3_eq]
  rw [show (dats m 0 c).owesAt () t.succ = (dats m 0 c).owesAt () t.castSucc from rfl, after0_0, after0_1, after0_2, after0_3, after0_4, after0_5, after0_6, after0_7, after0_8, hX, W1_eq, W2_eq, W3_eq, G1_eq, B1_eq, G2_eq, B2_eq, B3_eq]
  unfold carried
  iintro ⟨⟨%O, %s1, %s2, %HI, Ha, Hb, Hc, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run1_first c Set.univ (grid0.coords t) _ _ _ _ _ _ _ _ _ _ _ _ _ _ _ _ _ _ _ _ _ _ _ _ _ _ h1 h4 h7 hf hl _ _ _ _ _ _ _)
  isplitl [H2]; · iexact H2
  isplitl [H4]; · iexact H4
  isplitl [H5]; · iexact H5
  isplitl [Ha]; · iexact Ha
  isplitl [Hb]; · iexact Hb
  isplitl [Hc]; · iexact Hc
  iintro ⟨H2, H4, H5, Ha, Hb, Hc⟩
  isplitl [Ha Hb Hc Hp]
  · iexists _; iexists _; iexists _; isplitr
    swap
    · isplitl [Ha]; · iexact Ha
      isplitl [Hb]; · iexact Hb
      isplitl [Hc]; · iexact Hc
      iexact Hp
    ipureintro; exact phase1_first m c t ht HI _
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold kept; iexists d9; iexact H9

/-- Phase 1's later points. -/
theorem sound1_later (c : Dev nD) (t : Fin cfg0.N) (ht : 10 < t.val ∧ t.val < 20) :
    bodyPre m c t ⊢ wp frame (wpE (defs₀ (F := F)) Variants.none c none) Set.univ (bodyAt0 t) (fun _ => bodyPost m c t (kept m c t)) := by
  have hN : t.val < 30 := lt_of_lt_of_eq t.isLt N_0
  have hX : iblk m c 0 t = X m c t.val := X_eq m c t t.val (Nat.mod_eq_of_lt hN)
  have h1 : ¬ k0_cond1 (grid0.coords t) = 1#1 := fun h => by have := (cond1_iff t).mp h; omega
  have h4 : k0_cond4 (grid0.coords t) = 1#1 := (cond4_iff t).mpr (by omega)
  have h7 : ¬ k0_cond7 (grid0.coords t) = 1#1 := fun h => by have := (cond7_iff t).mp h; omega
  have hf : ¬ firstW (grid0.coords t) = 1#1 := fun h => absurd ((firstW_iff t).mp h) (by omega)
  have hl : laterW (grid0.coords t) = 1#1 := (laterW_iff t).mpr (by omega)
  unfold bodyPre bodyPost
  rw [Φ_castSucc, Φ_succ]
  simp only [before0_0, before0_1, before0_2, before0_3, before0_4, before0_5, before0_6, before0_7, before0_8, hX, W1_eq, W2_eq, W3_eq, G1_eq, B1_eq, G2_eq, B2_eq, B3_eq]
  rw [show (dats m 0 c).owesAt () t.succ = (dats m 0 c).owesAt () t.castSucc from rfl, after0_0, after0_1, after0_2, after0_3, after0_4, after0_5, after0_6, after0_7, after0_8, hX, W1_eq, W2_eq, W3_eq, G1_eq, B1_eq, G2_eq, B2_eq, B3_eq]
  unfold carried
  iintro ⟨⟨%O, %s1, %s2, %HI, Ha, Hb, Hc, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run1_later c Set.univ (grid0.coords t) _ _ _ _ _ _ _ _ _ _ _ _ _ _ _ _ _ _ _ _ _ _ _ _ _ _ h1 h4 h7 hf hl _ _ _ _ _ _ _)
  isplitl [H2]; · iexact H2
  isplitl [H4]; · iexact H4
  isplitl [H5]; · iexact H5
  isplitl [Ha]; · iexact Ha
  isplitl [Hb]; · iexact Hb
  isplitl [Hc]; · iexact Hc
  iintro ⟨H2, H4, H5, Ha, Hb, Hc⟩
  isplitl [Ha Hb Hc Hp]
  · iexists _; iexists _; iexists _; isplitr
    swap
    · isplitl [Ha]; · iexact Ha
      isplitl [Hb]; · iexact Hb
      isplitl [Hc]; · iexact Hc
      iexact Hp
    ipureintro; exact phase1_later m c t ht HI _
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold kept; iexists d9; iexact H9

/-- Phase 2's points. -/
theorem sound2 (c : Dev nD) (t : Fin cfg0.N) (ht : 20 ≤ t.val) :
    bodyPre m c t ⊢ wp frame (wpE (defs₀ (F := F)) Variants.none c none) Set.univ (bodyAt0 t) (fun _ => bodyPost m c t (left m c t)) := by
  have hN : t.val < 30 := lt_of_lt_of_eq t.isLt N_0
  have hX : iblk m c 0 t = X m c t.val := X_eq m c t t.val (Nat.mod_eq_of_lt hN)
  have h1 : ¬ k0_cond1 (grid0.coords t) = 1#1 := fun h => by have := (cond1_iff t).mp h; omega
  have h4 : ¬ k0_cond4 (grid0.coords t) = 1#1 := fun h => by have := (cond4_iff t).mp h; omega
  have h7 : k0_cond7 (grid0.coords t) = 1#1 := (cond7_iff t).mpr (by omega)
  unfold bodyPre bodyPost
  rw [Φ_castSucc, Φ_succ]
  simp only [before0_0, before0_1, before0_2, before0_3, before0_4, before0_5, before0_6, before0_7, before0_8, hX, W1_eq, W2_eq, W3_eq, G1_eq, B1_eq, G2_eq, B2_eq, B3_eq]
  rw [show (dats m 0 c).owesAt () t.succ = (dats m 0 c).owesAt () t.castSucc from rfl, after0_0, after0_1, after0_2, after0_3, after0_4, after0_5, after0_6, after0_7, after0_8, hX, W1_eq, W2_eq, W3_eq, G1_eq, B1_eq, G2_eq, B2_eq, B3_eq]
  unfold carried
  iintro ⟨⟨%O, %s1, %s2, %HI, Ha, Hb, Hc, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run2 c Set.univ (grid0.coords t) _ _ _ _ _ _ _ _ _ _ _ _ _ _ _ _ _ _ _ _ _ _ _ _ _ _ h1 h4 h7 _ _ _ _ _ _ _ _)
  isplitl [H3]; · iexact H3
  isplitl [H6]; · iexact H6
  isplitl [H7]; · iexact H7
  isplitl [H8]; · iexact H8
  isplitl [H9]; · iexact H9
  isplitl [Ha]; · iexact Ha
  isplitl [Hc]; · iexact Hc
  iintro ⟨H3, H6, H7, H8, H9, Ha, Hc⟩
  isplitl [Ha Hb Hc Hp]
  · iexists O; iexists s1; iexists s2; isplitr
    swap
    · isplitl [Ha]; · iexact Ha
      isplitl [Hb]; · iexact Hb
      isplitl [Hc]; · iexact Hc
      iexact Hp
    ipureintro; exact step2 m c t HI ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold left; rw [after0_9, ← tile_eq m c t HI ht _]; iexact H9

/-! ## The obligation and the run -/

/-- The table's row for the body. -/
theorem defs₀_row (t : Fin cfg0.N) : defs₀ (F := F) .tc cfg0.body (cfg0.bodyArgs t (cfg0.slots t)) = bodyAt0 t := by
  unfold defs₀; rw [Defs.onTc_tc]

/-- The obligation at every point: the output window is idle through phases 0 and 1, and takes its tile in phase 2. -/
theorem body_obligation (c : Dev nD) : BodyObligation (dats (F := F) m 0 c) (defs₀ (F := F)) Variants.none () Set.univ := fun t => by
  rw [bigSep_W0, bigSep_W0, defs₀_row]
  by_cases ht : t.val < 20
  · have hi : cfg0.idle 9 (cfg0.grid.coords t) = true := (idle9 t).trans (decide_eq_true ht)
    have hfl : (cfg0.win 9).flush t = false := (flush9 t).trans (decide_eq_false (by omega))
    rewrite [hi, hfl]
    have hs : bodyPre m c t ⊢ wp frame (wpE (defs₀ (F := F)) Variants.none c none) Set.univ (bodyAt0 t) (fun _ => bodyPost m c t (kept m c t)) := by
      by_cases h0 : t.val = 0
      · exact sound0_first m c t h0
      by_cases h1 : t.val < 10
      · exact sound0_later m c t ⟨by omega, h1⟩
      by_cases h2 : t.val = 10
      · exact sound1_first m c t h2
      · exact sound1_later m c t ⟨by omega, ht⟩
    exact triple_restated hs rfl .rfl fun _ => .rfl
  · have hi : cfg0.idle 9 (cfg0.grid.coords t) = false := (idle9 t).trans (decide_eq_false ht)
    rewrite [hi]
    exact triple_restated (sound2 m c t (by omega)) rfl .rfl fun _ => .rfl

/-- Before the first point the scratch holds anything. -/
theorem carried_in (c : Dev nD) : Pipeline.ΦA spec0 c ⊢ carried (F := F) m c 0 := by
  unfold Pipeline.ΦA carried
  rw [scopedRest0_eq]
  simp only [owns_whole_eq]
  iintro ⟨⟨⟨%O, Ha⟩, ⟨%s1, Hb⟩, ⟨%s2, Hc⟩⟩, Hp⟩
  iexists O; iexists s1; iexists s2
  isplitr; · ipureintro; exact Inv.zero m c O s1 s2
  isplitl [Ha]
  · iexists O; isplitr; · ipureintro; rfl
    iexact Ha
  isplitl [Hb]
  · iexists s1; isplitr; · ipureintro; rfl
    iexact Hb
  isplitl [Hc]
  · iexists s2; isplitr; · ipureintro; rfl
    iexact Hc
  iexact Hp

/-- After the last it is forgotten. -/
theorem carried_out (c : Dev nD) (n : ℕ) : carried (F := F) m c n ⊢ Pipeline.ΦA spec0 c := by
  unfold Pipeline.ΦA carried
  rw [scopedRest0_eq]
  simp only [owns_whole_eq]
  iintro ⟨%O, %s1, %s2, %HI, ⟨%f0, %h0, Ha⟩, ⟨%f1, %h1, Hb⟩, ⟨%f2, %h2, Hc⟩, Hp⟩
  isplitr [Hp]
  · isplitl [Ha]; · iexists f0; iexact Ha
    isplitl [Hb]; · iexists f1; iexact Hb
    iexists f2; iexact Hc
  iexact Hp

set_option backward.isDefEq.respectTransparency.types false in
/-- The run: every execution ends, with the arrays as the data says and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments are unchanged, every counter is zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Algebra.lean ====
/-
  The mathematics of the claim, with no program in it: how sums taken tile by tile and in halves are the sum over all
  rows; a column's mean and variance by the two formulas; and that a layer with the normalisation folded into a bias
  inside the positive part and into the next layer's weights is the layer with the normalisation written out.
-/
module

public import Idealize.ShloMosaic.PureOps.Ideal
public import Mathlib.Algebra.BigOperators.Fin
public import Mathlib.Analysis.SpecialFunctions.Pow.Real

@[expose] public section

set_option maxRecDepth 16384

noncomputable section

namespace Cert.Algebra

open Idealize.ShloMosaic

/-! ## Sums -/

/-- Sixteen strided pieces of 625 rows, added in halves, are the sum of the 10000 rows. -/
theorem halves_sum (g : ℕ → EReal) :
    ∑ x : Fin 625,
      (g x + g (5000 + x) + (g (2500 + x) + g (5000 + (2500 + x)))
          + (g (1250 + x) + g (5000 + (1250 + x)) + (g (2500 + (1250 + x)) + g (5000 + (2500 + (1250 + x)))))
        + (g (625 + x) + g (5000 + (625 + x)) + (g (2500 + (625 + x)) + g (5000 + (2500 + (625 + x))))
          + (g (1250 + (625 + x)) + g (5000 + (1250 + (625 + x)))
            + (g (2500 + (1250 + (625 + x))) + g (5000 + (2500 + (1250 + (625 + x)))))))) = ∑ r : Fin 10000, g r := by
  have half : ∀ (h : ℕ → EReal) (n : ℕ), ∑ i ∈ Finset.range (n + n), h i = ∑ i ∈ Finset.range n, (h i + h (n + i)) := fun h n => by
    rw [Finset.sum_range_add, Finset.sum_add_distrib]
  rw [Fin.sum_univ_eq_sum_range (fun r => g r) 10000, show (10000 : ℕ) = 5000 + 5000 from rfl, half, show (5000 : ℕ) = 2500 + 2500 from rfl, half,
    show (2500 : ℕ) = 1250 + 1250 from rfl, half, show (1250 : ℕ) = 625 + 625 from rfl, half]
  exact Fin.sum_univ_eq_sum_range (fun x => g x + g (5000 + x) + (g (2500 + x) + g (5000 + (2500 + x)))
          + (g (1250 + x) + g (5000 + (1250 + x)) + (g (2500 + (1250 + x)) + g (5000 + (2500 + (1250 + x)))))
        + (g (625 + x) + g (5000 + (625 + x)) + (g (2500 + (625 + x)) + g (5000 + (2500 + (625 + x))))
          + (g (1250 + (625 + x)) + g (5000 + (1250 + (625 + x)))
            + (g (2500 + (1250 + (625 + x))) + g (5000 + (2500 + (1250 + (625 + x)))))))) 625

/-- The values of 10000 rows at a natural number, zero past the last. -/
def padded (o : Fin 10000 → EReal) (n : ℕ) : EReal := if h : n < 10000 then o ⟨n, h⟩ else 0

/-- At a row it is the row's value. -/
theorem padded_of_lt (o : Fin 10000 → EReal) (n : ℕ) (h : n < 10000) : o ⟨n, h⟩ = padded o n := by
  unfold padded
  rw [dif_pos h]

/-- The rows' sum over the padded values. -/
theorem sum_padded (o : Fin 10000 → EReal) : ∑ r : Fin 10000, o r = ∑ r : Fin 10000, padded o r.val :=
  Finset.sum_congr rfl fun r _ => padded_of_lt o r.val r.isLt

/-- Row `r` of tile `j`. -/
def row (j : Fin 10) (r : Fin 10000) : Fin 100000 := ⟨10000 * j + r, by omega⟩

/-- The rows, tile by tile. -/
theorem tiles_sum (v : Fin 100000 → EReal) : ∑ j : Fin 10, ∑ r : Fin 10000, v (row j r) = ∑ R, v R := by
  rw [← Fintype.sum_prod_type' fun j r => v (row j r)]
  refine Fintype.sum_equiv (finProdFinEquiv (m := 10) (n := 10000)) _ v fun p => ?_
  congr 1
  apply Fin.ext
  show 10000 * p.1.val + p.2.val = p.2.val + 10000 * p.1.val
  omega

/-! ## A column's mean and variance -/

/-- The mean of a column. -/
def mean (O : Fin 100000 → ℝ) : ℝ := (∑ r, O r) / 100000
/-- Its variance about the mean. -/
def var (O : Fin 100000 → ℝ) : ℝ := (∑ r, (O r - mean O) * (O r - mean O)) / 100000
/-- The factor the normalisation multiplies by. -/
def factor (O : Fin 100000 → ℝ) (γ : ℝ) : ℝ := (Real.sqrt (var O + 100000⁻¹))⁻¹ * γ

/-- The variance is the mean of the squares less the square of the mean. -/
theorem var_eq (O : Fin 100000 → ℝ) : (∑ r, O r * O r) * 100000⁻¹ - (∑ r, O r) * 100000⁻¹ * ((∑ r, O r) * 100000⁻¹) = var O := by
  have h : ∑ r, (O r - mean O) * (O r - mean O) = ∑ r, O r * O r - 2 * mean O * ∑ r, O r + 100000 * (mean O * mean O) := by
    rw [Finset.mul_sum, ← Finset.sum_sub_distrib]
    have : (100000 : ℝ) * (mean O * mean O) = ∑ _r : Fin 100000, mean O * mean O := by
      rw [Finset.sum_const, Finset.card_univ, Fintype.card_fin, nsmul_eq_mul]; norm_num
    rw [this, ← Finset.sum_add_distrib]
    exact Finset.sum_congr rfl fun r _ => by ring
  unfold var
  rw [h]
  unfold mean
  ring

/-- It is not negative. -/
theorem var_nonneg (O : Fin 100000 → ℝ) : 0 ≤ var O :=
  div_nonneg (Finset.sum_nonneg fun _ _ => mul_self_nonneg _) (by norm_num)

/-- The number under the root is positive. -/
theorem radicand_pos (O : Fin 100000 → ℝ) : 0 < var O + 100000⁻¹ := by
  have := var_nonneg O
  have : (0 : ℝ) < 100000⁻¹ := by norm_num
  linarith

/-- A positive gain gives a positive factor. -/
theorem factor_pos (O : Fin 100000 → ℝ) {γ : ℝ} (hγ : 0 < γ) : 0 < factor O γ :=
  mul_pos (inv_pos.mpr (Real.sqrt_pos.mpr (radicand_pos O))) hγ

/-- A constant added to a column moves its mean. -/
theorem mean_add (O : Fin 100000 → ℝ) (β : ℝ) : mean (fun r => O r + β) = mean O + β := by
  unfold mean
  rw [Finset.sum_add_distrib, Finset.sum_const, Finset.card_univ, Fintype.card_fin, nsmul_eq_mul]
  push_cast
  ring

/-- It leaves the squares about the mean. -/
theorem squares_add (O : Fin 100000 → ℝ) (β : ℝ) :
    ∑ x, (O x + β - (mean O + β)) * (O x + β - (mean O + β)) = ∑ x, (O x - mean O) * (O x - mean O) :=
  Finset.sum_congr rfl fun r _ => by rw [add_sub_add_right_eq_sub]

/-- The larger of two reals, read in the extended reals. -/
theorem coe_max (a b : ℝ) : ((max a b : ℝ) : EReal) = max (a : EReal) (b : EReal) := EReal.coe_strictMono.monotone.map_max

/-- A finite sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The normalisation as the kernel has it -/

/-- One over the number of rows, which is also the small number under the root. -/
def small : EReal := ((100000⁻¹ : ℝ) : EReal)

/-- The factor, from the sums of a column and of its squares. -/
def kFactor (S0 S1 g : EReal) : EReal := Ideal.rsqrt (S1 * small - S0 * small * (S0 * small) + small) * g

/-- The activation, its normalisation's factor left out. -/
def kAct (S0 S1 g b o : EReal) : EReal := max (o + (Ideal.div b (kFactor S0 S1 g) - S0 * small)) 0

/-- The kernel's factor is the normalisation's. -/
theorem kFactor_eq (O : Fin 100000 → ℝ) (γ : ℝ) :
    kFactor (∑ r, (O r : EReal)) (∑ r, (O r : EReal) * (O r : EReal)) γ = (factor O γ : ℝ) := by
  unfold kFactor small
  simp only [← EReal.coe_mul]
  rw [coe_sum, coe_sum]
  simp only [← EReal.coe_mul, ← EReal.coe_sub, ← EReal.coe_add]
  rw [var_eq, Ideal.rsqrt_coe, if_neg (not_lt.mpr (radicand_pos O).le), if_neg (radicand_pos O).ne', ← EReal.coe_mul]
  rfl

/-- The kernel's activation times the factor is the positive part of the normalised value. -/
theorem kAct_mul (O : Fin 100000 → ℝ) {γ : ℝ} (hγ : 0 < γ) (b : EReal) (r : Fin 100000) :
    kAct (∑ r, (O r : EReal)) (∑ r, (O r : EReal) * (O r : EReal)) γ b (O r) * (factor O γ : ℝ)
      = max ((((O r - mean O) * factor O γ : ℝ) : EReal) + b) 0 := by
  unfold kAct
  rw [kFactor_eq, coe_sum]
  have hs := factor_pos O hγ
  rw [Ideal.div_coe hs.ne', small, ← EReal.coe_mul, show (∑ r, O r) * 100000⁻¹ = mean O from (div_eq_mul_inv _ _).symm]
  generalize factor O γ = s at hs
  generalize mean O = μ
  have hs' : (0 : EReal) < (s : EReal) := by exact_mod_cast hs
  induction b with
  | bot =>
    rw [EReal.bot_mul_coe_of_pos (by positivity), EReal.bot_sub, EReal.add_bot, EReal.add_bot, max_eq_right bot_le, zero_mul]
  | top =>
    rw [EReal.top_mul_coe_of_pos (by positivity), EReal.top_sub_coe, EReal.coe_add_top, EReal.coe_add_top, max_eq_left le_top,
      EReal.top_mul_coe_of_pos hs]
  | coe b =>
    rw [← EReal.coe_mul, ← EReal.coe_sub, ← EReal.coe_add, ← EReal.coe_add, ← EReal.coe_zero, ← coe_max, ← coe_max, ← EReal.coe_mul,
      max_mul_of_nonneg _ _ hs.le, zero_mul]
    congr 2
    field_simp
    ring

/-! ## The normalisation written out -/

/-- A column normalised: its mean off, over the root of its variance, by the gain, with the shift. -/
def normed (h : Fin 100000 → EReal) (g b : EReal) (r : Fin 100000) : EReal :=
  Ideal.div (h r - Ideal.div (∑ x, h x) (100000 : ℝ))
      (Ideal.sqrt (Ideal.div (∑ x, (h x - Ideal.div (∑ x, h x) (100000 : ℝ)) * (h x - Ideal.div (∑ x, h x) (100000 : ℝ))) (100000 : ℝ)
        + Ideal.div 1 (100000 : ℝ))) * g + b

/-- Of a real column with a constant added, by the constantless column's mean and factor. -/
theorem normed_eq (O : Fin 100000 → ℝ) (β γ : ℝ) (b : EReal) (r : Fin 100000) :
    normed (fun r => (O r : EReal) + (β : EReal)) γ b r = (((O r - mean O) * factor O γ : ℝ) : EReal) + b := by
  unfold normed
  simp only [← EReal.coe_add, coe_sum, Ideal.div_coe (show (100000 : ℝ) ≠ 0 by norm_num), ← EReal.coe_mul, ← EReal.coe_sub, ← EReal.coe_one]
  have hm : (∑ x, (O x + β)) * (1 / 100000) = mean O + β := by rw [← mean_add]; unfold mean; ring
  rw [hm]
  have hv : (∑ x, (O x + β - (mean O + β)) * (O x + β - (mean O + β))) * (1 / 100000) = var O := by
    rw [squares_add, ← div_eq_mul_one_div]
    rfl
  rw [hv, one_mul, one_div, Ideal.sqrt_coe, if_neg (not_lt.mpr (radicand_pos O).le),
    Ideal.div_coe (Real.sqrt_pos.mpr (radicand_pos O)).ne', ← EReal.coe_mul, ← EReal.coe_mul]
  have hs : (O r + β - (mean O + β)) * (1 / Real.sqrt (var O + 100000⁻¹)) * γ = (O r - mean O) * factor O γ := by
    unfold factor
    ring
  rw [hs]

/-! ## The layers -/

/-- A linear layer without its bias. -/
def lin (x : Fin 100000 → Fin 128 → EReal) (w : Fin 128 → Fin 128 → EReal) (R : Fin 100000) (f : Fin 128) : EReal := ∑ k, x R k * w f k

/-- The normalised positive part of a linear layer with its bias. -/
def layer (o : Fin 100000 → Fin 128 → EReal) (b g be : Fin 128 → EReal) (R : Fin 100000) (f : Fin 128) : EReal :=
  max (normed (fun r => o r f + b f) (g f) (be f) R) 0

/-- The sum of each column. -/
def sum0 (o : Fin 100000 → Fin 128 → EReal) (f : Fin 128) : EReal := ∑ R, o R f
/-- The sum of each column's squares. -/
def sum1 (o : Fin 100000 → Fin 128 → EReal) (f : Fin 128) : EReal := ∑ R, o R f * o R f

/-- The kernel's next product of a layer: its activations against the weights times the factors. -/
def kLin (o : Fin 100000 → Fin 128 → EReal) (g be : Fin 128 → EReal) (w : Fin 128 → Fin 128 → EReal) (R : Fin 100000) (f : Fin 128) : EReal :=
  ∑ k, kAct (sum0 o k) (sum1 o k) (g k) (be k) (o R k) * (w f k * kFactor (sum0 o k) (sum1 o k) (g k))

/-- It is the product of the normalised layer, whatever the bias, for real values and positive gains. -/
theorem kLin_eq (O : Fin 100000 → Fin 128 → ℝ) (β γ : Fin 128 → ℝ) (hγ : ∀ k, 0 < γ k) (be : Fin 128 → EReal) (w : Fin 128 → Fin 128 → EReal) :
    kLin (fun R f => (O R f : EReal)) (fun k => (γ k : EReal)) be w
      = lin (layer (fun R f => (O R f : EReal)) (fun k => (β k : EReal)) (fun k => (γ k : EReal)) be) w := by
  funext R f
  unfold kLin lin layer sum0 sum1
  refine Finset.sum_congr rfl fun k _ => ?_
  rw [normed_eq (fun r => O r k), ← kAct_mul (fun r => O r k) (hγ k) (be k) R, kFactor_eq (fun r => O r k), mul_comm (w f k), mul_assoc]

/-- A normalised layer is real where its shift is not +∞. -/
theorem layer_real (O : Fin 100000 → Fin 128 → ℝ) (β γ : Fin 128 → ℝ) (be : Fin 128 → EReal) (hbe : ∀ k, be k < ⊤) (R : Fin 100000) (k : Fin 128) :
    ∃ y : ℝ, layer (fun R f => (O R f : EReal)) (fun k => (β k : EReal)) (fun k => (γ k : EReal)) be R k = (y : EReal) := by
  unfold layer
  rw [normed_eq (fun r => O r k)]
  have h := hbe k
  generalize be k = b at h
  induction b with
  | bot => exact ⟨0, by rw [EReal.add_bot, max_eq_right bot_le]; rfl⟩
  | top => exact absurd h (lt_irrefl _)
  | coe b => exact ⟨max ((O R k - mean fun r => O r k) * factor (fun r => O r k) (γ k) + b) 0, by
      rw [← EReal.coe_add, ← EReal.coe_zero, ← coe_max]⟩

/-- The three layers, folded as the kernel folds them, are the three layers written out. -/
theorem layers_eq (x : Fin 100000 → Fin 128 → ℝ) (w1 w2 : Fin 128 → Fin 128 → ℝ) (b1 g1 b2 g2 : Fin 128 → ℝ) (be1 be2 : Fin 128 → EReal)
    (w3 : Fin 128 → Fin 128 → EReal) (hbe1 : ∀ k, be1 k < ⊤) (hg1 : ∀ k, 0 < g1 k) (hg2 : ∀ k, 0 < g2 k) :
    kLin (kLin (lin (fun R k => (x R k : EReal)) fun f k => (w1 f k : EReal)) (fun k => (g1 k : EReal)) be1 fun f k => (w2 f k : EReal))
        (fun k => (g2 k : EReal)) be2 w3
      = lin (layer (lin (layer (lin (fun R k => (x R k : EReal)) fun f k => (w1 f k : EReal)) (fun k => (b1 k : EReal)) (fun k => (g1 k : EReal)) be1)
          fun f k => (w2 f k : EReal)) (fun k => (b2 k : EReal)) (fun k => (g2 k : EReal)) be2) w3 := by
  have h1 : lin (fun R k => (x R k : EReal)) (fun f k => (w1 f k : EReal)) = fun R f => ((∑ k, x R k * w1 f k : ℝ) : EReal) := by
    funext R f
    unfold lin
    simp only [← EReal.coe_mul, coe_sum]
  rw [h1, kLin_eq _ b1 g1 hg1]
  choose y hy using layer_real (fun R f => ∑ k, x R k * w1 f k) b1 g1 be1 hbe1
  have h2 : lin (layer (fun R f => ((∑ k, x R k * w1 f k : ℝ) : EReal)) (fun k => (b1 k : EReal)) (fun k => (g1 k : EReal)) be1)
      (fun f k => (w2 f k : EReal)) = fun R f => ((∑ k, y R k * w2 f k : ℝ) : EReal) := by
    funext R f
    unfold lin
    simp only [hy, ← EReal.coe_mul, coe_sum]
  rw [h2, kLin_eq _ b2 g2 hg2]

end Cert.Algebra

end
-- ==== Proof.Tiles.lean ====
/-
  What the kernel's result array holds after the run, index by index: the payloads read at a row and a column, the
  operands' blocks as pieces of the arguments, the statistics after the tiles as sums over all rows, and the output
  tiles as the three layers of `Algebra.lean`, folded as the kernel folds them.
-/
module

public import proofs.«01_k».proof.Proof.Body
public import proofs.«01_k».proof.Proof.Algebra
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Value

open Cert.KernelIdeal Cert.KernelIdeal.Gen Cert.KernelIdeal.Body Cert.Algebra
open Idealize.ShloMosaic Idealize.ShloMosaic.TcCoe

/-! ## The payloads at an index -/

/-- The first product's tile at a row and a column. -/
theorem pay7_ap (x : Vec Ideal S10000x128 .f32) (w : Vec Ideal S128x128 .f32) (r : Fin 10000) (f : Fin 128) :
    k0_pay7 (F := Ideal) x w (ix2 r f) = (∑ k, x (ix2 r k) * w (ix2 f k) : EReal) := by
  pointwise [k0_pay7, k0_pay6]

/-- The tile before it is stored, the same. -/
theorem pay6_eq (x : Vec Ideal S10000x128 .f32) (w : Vec Ideal S128x128 .f32) (i : S10000x128.Idx) :
    k0_pay6 (F := Ideal) x w i = (k0_pay7 (F := Ideal) x w i : EReal) := by
  unfold k0_pay7
  generalize k0_pay6 (F := Ideal) x w = o
  pointwise []

/-- A tile's statistics added to the sums so far. -/
theorem pay1_ap (p q : Vec Ideal S2x128 .f32) (i : S2x128.Idx) : k0_pay1 (F := Ideal) p q i = (q i + p i : EReal) := by
  pointwise [k0_pay1]

/-- The first tile's statistics begin the sums. -/
theorem pay9_ap (x : Vec Ideal S10000x128 .f32) (w : Vec Ideal S128x128 .f32) (i : S2x128.Idx) :
    k0_pay9 (F := Ideal) x w i = k0_pay8 (F := Ideal) x w i := by
  unfold k0_pay9
  generalize k0_pay8 (F := Ideal) x w = o
  pointwise []

/-- A tile's first statistics: the sum of each column. -/
theorem pay8_ap0 (x : Vec Ideal S10000x128 .f32) (w : Vec Ideal S128x128 .f32) (f : Fin 128) :
    k0_pay8 (F := Ideal) x w (ix2 0 f) = (∑ r : Fin 10000, k0_pay6 (F := Ideal) x w (ix2 r f) : EReal) := by
  unfold k0_pay8
  generalize k0_pay6 (F := Ideal) x w = o
  pointwise []
  obtain ⟨p, hp⟩ : ∃ p : Fin 10000 → EReal, ∀ r, o (ix2 r f) = p r := ⟨_, fun _ => rfl⟩
  simp only [hp]
  rw [sum_padded, ← halves_sum]
  simp only [padded_of_lt p]

/-- And the sum of its squares. -/
theorem pay8_ap1 (x : Vec Ideal S10000x128 .f32) (w : Vec Ideal S128x128 .f32) (f : Fin 128) :
    k0_pay8 (F := Ideal) x w (ix2 1 f) = (∑ r : Fin 10000, k0_pay6 (F := Ideal) x w (ix2 r f) * k0_pay6 (F := Ideal) x w (ix2 r f) : EReal) := by
  unfold k0_pay8
  generalize k0_pay6 (F := Ideal) x w = o
  pointwise []
  obtain ⟨p, hp⟩ : ∃ p : Fin 10000 → EReal, ∀ r, o (ix2 r f) = p r := ⟨_, fun _ => rfl⟩
  simp only [hp]
  obtain ⟨q, hq⟩ : ∃ q : Fin 10000 → EReal, ∀ r, p r * p r = q r := ⟨_, fun _ => rfl⟩
  simp only [hq]
  rw [sum_padded, ← halves_sum]
  simp only [padded_of_lt q]

/-- The second layer's first tile begins its sums. -/
theorem pay3_ap (o : Vec Ideal S10000x128 .f32) (q : Vec Ideal S2500x128 .f32) (i : S2x128.Idx) :
    k0_pay3 (F := Ideal) o q i = k0_pay2 (F := Ideal) o q i := by
  unfold k0_pay3
  generalize k0_pay2 (F := Ideal) o q = o
  pointwise []

/-- Its later tiles add theirs. -/
theorem pay4_ap (o : Vec Ideal S10000x128 .f32) (q : Vec Ideal S2500x128 .f32) (a : Vec Ideal S2x128 .f32) (i : S2x128.Idx) :
    k0_pay4 (F := Ideal) o q a i = (a i + k0_pay2 (F := Ideal) o q i : EReal) := by
  unfold k0_pay4
  generalize k0_pay2 (F := Ideal) o q = o
  pointwise []

/-- A tile's second statistics: the sum of each column. -/
theorem pay2_ap0 (s g b o w) (f : Fin 128) :
    k0_pay2 (F := Ideal) (k0_pay10 s g b o w) (k0_pay12 s g b o w) (ix2 0 f) = (∑ r : Fin 10000, k0_pay10 (F := Ideal) s g b o w (ix2 r f) : EReal) := by
  unfold k0_pay2 k0_pay12
  generalize k0_pay10 (F := Ideal) s g b o w = o
  pointwise []
  obtain ⟨p, hp⟩ : ∃ p : Fin 10000 → EReal, ∀ r, o (ix2 r f) = p r := ⟨_, fun _ => rfl⟩
  simp only [hp]
  rw [sum_padded, ← halves_sum]
  simp only [padded_of_lt p]

/-- And the sum of its squares. -/
theorem pay2_ap1 (s g b o w) (f : Fin 128) :
    k0_pay2 (F := Ideal) (k0_pay10 s g b o w) (k0_pay12 s g b o w) (ix2 1 f)
      = (∑ r : Fin 10000, k0_pay10 (F := Ideal) s g b o w (ix2 r f) * k0_pay10 (F := Ideal) s g b o w (ix2 r f) : EReal) := by
  unfold k0_pay2 k0_pay12
  generalize k0_pay10 (F := Ideal) s g b o w = o
  pointwise []
  obtain ⟨p, hp⟩ : ∃ p : Fin 10000 → EReal, ∀ r, o (ix2 r f) = p r := ⟨_, fun _ => rfl⟩
  simp only [hp]
  obtain ⟨q, hq⟩ : ∃ q : Fin 10000 → EReal, ∀ r, p r * p r = q r := ⟨_, fun _ => rfl⟩
  simp only [hq]
  rw [sum_padded, ← halves_sum]
  simp only [padded_of_lt q]

/-- A tile of the second product at a row and a column. -/
theorem pay10_ap (s : Vec Ideal S2x128 .f32) (g b : Vec Ideal S1x128 .f32) (o : Vec Ideal S10000x128 .bf16) (w : Vec Ideal S128x128 .f32)
    (r : Fin 10000) (f : Fin 128) :
    k0_pay10 (F := Ideal) s g b o w (ix2 r f) = (∑ k, kAct (s (ix2 0 k)) (s (ix2 1 k)) (g (ix2 0 k)) (b (ix2 0 k)) (o (ix2 r k))
      * (w (ix2 f k) * kFactor (s (ix2 0 k)) (s (ix2 1 k)) (g (ix2 0 k))) : EReal) := by
  pointwise [k0_pay10]
  rfl

/-- The tile as the scratch keeps it, the same. -/
theorem pay11_ap (s : Vec Ideal S2x128 .f32) (g b : Vec Ideal S1x128 .f32) (o : Vec Ideal S10000x128 .bf16) (w : Vec Ideal S128x128 .f32)
    (i : S10000x128.Idx) : k0_pay11 (F := Ideal) s g b o w i = (k0_pay10 (F := Ideal) s g b o w i : EReal) := by
  unfold k0_pay11
  generalize k0_pay10 (F := Ideal) s g b o w = o
  pointwise []

/-- A tile of the result at a row and a column. -/
theorem pay5_ap (s : Vec Ideal S2x128 .f32) (g b : Vec Ideal S1x128 .f32) (o : Vec Ideal S10000x128 .bf16) (w : Vec Ideal S128x128 .f32)
    (d : Vec Ideal S1x128 .f32) (r : Fin 10000) (f : Fin 128) :
    k0_pay5 (F := Ideal) s g b o w d (ix2 r f) = (∑ k, kAct (s (ix2 0 k)) (s (ix2 1 k)) (g (ix2 0 k)) (b (ix2 0 k)) (o (ix2 r k))
      * (w (ix2 f k) * kFactor (s (ix2 0 k)) (s (ix2 1 k)) (g (ix2 0 k))) + d (ix2 0 f) : EReal) := by
  pointwise [k0_pay5]
  rfl

/-! ## The blocks -/

/-- The block index of every window at every point. -/
theorem idx : ∀ t : Fin grid0.N, (t.val < 10 → win0_0.index t = ![t.val, 0]) ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ (20 ≤ t.val → win0_9.index t = ![t.val - 20, 0]) := by decide +kernel

variable (m : (ℓ : Loc nD τ sig) → Buf (Elt Ideal) ℓ) (c : Dev nD)

/-- An input tile is its rows of the argument. -/
theorem X_read (j : Fin 10) (r : Fin 10000) (k : Fin 128) : X m c j (ix2 r k) = m ((c.tc : Thread nD τ).loc main_arg0) (ix2 (row j r) k) := by
  have hp : (pt j).val = j.val := Nat.mod_eq_of_lt (by omega)
  have h0 := (idx (pt j)).1 (by omega)
  rw [hp] at h0
  unfold X row
  blk_ext [iblk, V, h0]

/-- The first weight's block is the argument. -/
theorem W1_read (f k : Fin 128) : W1 m c (ix2 f k) = m ((c.tc : Thread nD τ).loc main_arg1) (ix2 f k) := by
  unfold W1
  blk_ext [iblk, V, idx (pt 0)]

/-- The second weight's block is the argument. -/
theorem W2_read (f k : Fin 128) : W2 m c (ix2 f k) = m ((c.tc : Thread nD τ).loc main_arg5) (ix2 f k) := by
  unfold W2
  blk_ext [iblk, V, idx (pt 0)]

/-- The third weight's block is the argument. -/
theorem W3_read (f k : Fin 128) : W3 m c (ix2 f k) = m ((c.tc : Thread nD τ).loc main_arg9) (ix2 f k) := by
  unfold W3
  blk_ext [iblk, V, idx (pt 0)]

/-- The first gain's block is the argument as one row. -/
theorem G1_read (k : Fin 128) : G1 m c (ix2 0 k) = m ((c.tc : Thread nD τ).loc main_arg3) (ix1 k) := by
  unfold G1
  blk_ext! [iblk, V, idx (pt 0)]

/-- The first shift's block is the argument as one row. -/
theorem B1_read (k : Fin 128) : B1 m c (ix2 0 k) = m ((c.tc : Thread nD τ).loc main_arg4) (ix1 k) := by
  unfold B1
  blk_ext! [iblk, V, idx (pt 0)]

/-- The second gain's block is the argument as one row. -/
theorem G2_read (k : Fin 128) : G2 m c (ix2 0 k) = m ((c.tc : Thread nD τ).loc main_arg7) (ix1 k) := by
  unfold G2
  blk_ext! [iblk, V, idx (pt 0)]

/-- The second shift's block is the argument as one row. -/
theorem B2_read (k : Fin 128) : B2 m c (ix2 0 k) = m ((c.tc : Thread nD τ).loc main_arg8) (ix1 k) := by
  unfold B2
  blk_ext! [iblk, V, idx (pt 0)]

/-- The last bias's block is the argument as one row. -/
theorem B3_read (k : Fin 128) : B3 m c (ix2 0 k) = m ((c.tc : Thread nD τ).loc main_arg10) (ix1 k) := by
  unfold B3
  blk_ext! [iblk, V, idx (pt 0)]

/-- The result array is any array its ten tiles are the tiles of. -/
theorem out_read (G : FVec Ideal S100000x128 .f32)
    (hG : ∀ (j : Fin 10) (r : Fin 10000) (f : Fin 128), out m c j (ix2 r f) = G (ix2 (row j r) f)) : (dats m 0 c).arrAt 9 (cfgs 0).N = G := by
  refine (dats m 0 c).arrAt_eq_of_covers 9 _ (by decide +kernel) fun t hf y => ?_
  have ht : 20 ≤ t.val := of_decide_eq_true ((flush9 t).symm.trans hf)
  have htN : t.val < 30 := lt_of_lt_of_eq t.isLt N_0
  have h9 := (idx t).2.2.2.2.2.2.2.2.2 ht
  blk_simp
  rw [after0_9]
  have hy : y = ix2 (y 0) (y 1) := eq_ix2 y
  rw [hy]
  refine (hG ⟨t.val - 20, by omega⟩ (y 0) (y 1)).trans ?_
  unfold row
  blk_ext [h9]

/-! ## The arguments as functions of a row and a column -/

/-- The input. -/
def argX (R : Fin 100000) (k : Fin 128) : EReal := m ((c.tc : Thread nD τ).loc main_arg0) (ix2 R k)
/-- The first weight. -/
def argW1 (f k : Fin 128) : EReal := m ((c.tc : Thread nD τ).loc main_arg1) (ix2 f k)
/-- The second weight. -/
def argW2 (f k : Fin 128) : EReal := m ((c.tc : Thread nD τ).loc main_arg5) (ix2 f k)
/-- The third weight. -/
def argW3 (f k : Fin 128) : EReal := m ((c.tc : Thread nD τ).loc main_arg9) (ix2 f k)
/-- The first gain. -/
def argG1 (k : Fin 128) : EReal := m ((c.tc : Thread nD τ).loc main_arg3) (ix1 k)
/-- The first shift. -/
def argB1 (k : Fin 128) : EReal := m ((c.tc : Thread nD τ).loc main_arg4) (ix1 k)
/-- The second gain. -/
def argG2 (k : Fin 128) : EReal := m ((c.tc : Thread nD τ).loc main_arg7) (ix1 k)
/-- The second shift. -/
def argB2 (k : Fin 128) : EReal := m ((c.tc : Thread nD τ).loc main_arg8) (ix1 k)
/-- The last bias. -/
def argB3 (f : Fin 128) : EReal := m ((c.tc : Thread nD τ).loc main_arg10) (ix1 f)

/-- The first product. -/
def first : Fin 100000 → Fin 128 → EReal := lin (argX m c) (argW1 m c)
/-- The second. -/
def second : Fin 100000 → Fin 128 → EReal := kLin (first m c) (argG1 m c) (argB1 m c) (argW2 m c)
/-- The result. -/
def third (R : Fin 100000) (f : Fin 128) : EReal := kLin (second m c) (argG2 m c) (argB2 m c) (argW3 m c) R f + argB3 m c f

/-! ## The tiles -/

/-- The first product's tiles. -/
theorem o1_ap (j : Fin 10) (r : Fin 10000) (f : Fin 128) : o1 m c j (ix2 r f) = first m c (row j r) f := by
  unfold o1
  rw [pay7_ap]
  simp only [X_read, W1_read]
  rfl

/-- The first statistics are the tiles' sums. -/
theorem acc1_sum (n : ℕ) (i : S2x128.Idx) : acc1 m c n i = (∑ j ∈ Finset.range (n + 1), k0_pay8 (F := Ideal) (X m c j) (W1 m c) i : EReal) := by
  induction n with
  | zero => rw [Finset.sum_range_one]; exact pay9_ap _ _ i
  | succ n ih => rw [Finset.sum_range_succ, ← ih]; exact pay1_ap _ _ i

/-- After the last tile: each column's sum. -/
theorem acc1_ap0 (f : Fin 128) : acc1 m c 9 (ix2 0 f) = sum0 (first m c) f := by
  rw [acc1_sum, Finset.sum_range]
  refine (Finset.sum_congr rfl fun j _ => ?_).trans (tiles_sum fun R => first m c R f)
  rw [pay8_ap0]
  exact Finset.sum_congr rfl fun r _ => (pay6_eq _ _ _).trans (o1_ap m c j r f)

/-- And its squares' sum. -/
theorem acc1_ap1 (f : Fin 128) : acc1 m c 9 (ix2 1 f) = sum1 (first m c) f := by
  rw [acc1_sum, Finset.sum_range]
  refine (Finset.sum_congr rfl fun j _ => ?_).trans (tiles_sum fun R => first m c R f * first m c R f)
  rw [pay8_ap1]
  refine Finset.sum_congr rfl fun r _ => ?_
  have h : k0_pay6 (F := Ideal) (X m c j) (W1 m c) (ix2 r f) = first m c (row j r) f := (pay6_eq _ _ _).trans (o1_ap m c j r f)
  rw [h]

/-- The second product's tiles. -/
theorem o2f_ap (j : Fin 10) (r : Fin 10000) (f : Fin 128) : o2f m c j (ix2 r f) = second m c (row j r) f := by
  unfold o2f
  rw [pay10_ap]
  simp only [acc1_ap0, acc1_ap1, G1_read, B1_read, o1_ap, W2_read]
  rfl

/-- The same as the scratch keeps them. -/
theorem o2_ap (j : Fin 10) (r : Fin 10000) (f : Fin 128) : o2 m c j (ix2 r f) = second m c (row j r) f :=
  (pay11_ap _ _ _ _ _ _).trans (o2f_ap m c j r f)

/-- The second statistics are the tiles' sums. -/
theorem acc2_sum (n : ℕ) (i : S2x128.Idx) : acc2 m c n i = (∑ j ∈ Finset.range (n + 1), k0_pay2 (F := Ideal) (o2f m c j) (o2q m c j) i : EReal) := by
  induction n with
  | zero => rw [Finset.sum_range_one]; exact pay3_ap _ _ i
  | succ n ih => rw [Finset.sum_range_succ, ← ih]; exact pay4_ap _ _ _ i

/-- After the last tile: each column's sum. -/
theorem acc2_ap0 (f : Fin 128) : acc2 m c 9 (ix2 0 f) = sum0 (second m c) f := by
  rw [acc2_sum, Finset.sum_range]
  refine (Finset.sum_congr rfl fun j _ => ?_).trans (tiles_sum fun R => second m c R f)
  exact (pay2_ap0 _ _ _ _ _ f).trans (Finset.sum_congr rfl fun r _ => o2f_ap m c j r f)

/-- And its squares' sum. -/
theorem acc2_ap1 (f : Fin 128) : acc2 m c 9 (ix2 1 f) = sum1 (second m c) f := by
  rw [acc2_sum, Finset.sum_range]
  refine (Finset.sum_congr rfl fun j _ => ?_).trans (tiles_sum fun R => second m c R f * second m c R f)
  refine (pay2_ap1 _ _ _ _ _ f).trans (Finset.sum_congr rfl fun r _ => ?_)
  have h : k0_pay10 (F := Ideal) (acc1 m c 9) (G1 m c) (B1 m c) (o1 m c j) (W2 m c) (ix2 r f) = second m c (row j r) f := o2f_ap m c j r f
  rw [h]

/-- The result's tiles. -/
theorem out_ap (j : Fin 10) (r : Fin 10000) (f : Fin 128) : out m c j (ix2 r f) = third m c (row j r) f := by
  unfold out
  rw [pay5_ap]
  simp only [acc2_ap0, acc2_ap1, G2_read, B2_read, o2_ap, W3_read, B3_read]
  rfl

/-- The result array after the run. -/
theorem result : (dats m 0 c).arrAt 9 (cfgs 0).N = fun i : S100000x128.Idx => third m c (i 0) (i 1) :=
  out_read m c _ fun j r f => out_ap m c j r f

end Cert.KernelIdeal.Value

end
-- ==== Proof.Words.lean ====
/-
  The words of the constants the reference and the precondition write, read as numbers.
-/
module

public import Idealize.ShloMosaic.PureOps.Ideal

@[expose] public section

noncomputable section

namespace Cert.Words

open Idealize.ShloMosaic

/-- The word of the number of rows. -/
theorem count_eq : Ideal.ofBits FTy.f32 1203982336#32 = ((100000 : ℝ) : EReal) := by
  simp [Ideal.ofBits, Ideal.ieee, -EReal.coe_mul]
  norm_num

/-- The word of +∞. -/
theorem inf_eq : Ideal.ofBits FTy.f32 2139095040#32 = (⊤ : EReal) := by
  simp [Ideal.ofBits, Ideal.ieee, -EReal.coe_mul]

end Cert.Words

end
-- ==== Proof.Reference.lean ====
/-
  What the reference computes, its three linear layers and two normalisations named, and its result at a row and a
  column as the layers of `Algebra.lean`.
-/
module

public import proofs.«01_k».proof.Proof.Gen.ReferenceIdeal.Run
public import proofs.«01_k».proof.Proof.Algebra
public import proofs.«01_k».proof.Proof.Words
public import Idealize.ShloMosaic.Lib.Pointwise

@[expose] public section

set_option maxRecDepth 16384

noncomputable section

namespace Cert.ReferenceIdeal.Spec

open Cert.ReferenceIdeal Cert.ReferenceIdeal.Gen Cert.Algebra
open Idealize.ShloMosaic Idealize.ShloMosaic.TcCoe

/-- A vector down the rows of an array. -/
def rows (v : FVec Ideal S128 .f32) : FVec Ideal S100000x128 .f32 :=
  broadcastInDim S100000x128 ![0, 1] bcast_S1x128_S100000x128_0_1 (broadcastInDim S1x128 ![1] bcast_S128_S1x128_1 v)

/-- A linear layer. -/
def linear (x : FVec Ideal S100000x128 .f32) (w : FVec Ideal S128x128 .f32) (b : FVec Ideal S128 .f32) : FVec Ideal S100000x128 .f32 :=
  addf (Host.dotGeneral dot_S100000x128_S128x128_S100000x128_1_0_0_1_n_n none x (transpose S128x128 [1, 0] w transposes_S128x128_S128x128_1_0)) (rows b)

/-- The mean of each column. -/
def colMean (h : FVec Ideal S100000x128 .f32) : FVec Ideal S128 .f32 :=
  Host.divf (Host.reduceAdd h (constant S_ .f32 0x00000000#32) reducesTo_S100000x128_S128_d0 h_S_)
    (broadcastInDim S128 ![] bcast_S_S128 (constant S_ .f32 0x47C35000#32))

/-- The small number under the root. -/
def eps : FVec Ideal S128 .f32 :=
  broadcastInDim S128 ![] bcast_S_S128 (Host.divf (constant S_ .f32 0x3F800000#32) (constant S_ .f32 0x47C35000#32))

/-- The batch normalisation. -/
def norm (h : FVec Ideal S100000x128 .f32) (g b : FVec Ideal S128 .f32) : FVec Ideal S100000x128 .f32 :=
  addf (mulf (Host.divf (subf h (rows (colMean h)))
      (rows (Host.sqrt (addf (colMean (mulf (subf h (rows (colMean h))) (subf h (rows (colMean h))))) eps)))) (rows g)) (rows b)

/-- The positive part. -/
def relu (h : FVec Ideal S100000x128 .f32) : FVec Ideal S100000x128 .f32 :=
  maximumf h (broadcastInDim S100000x128 ![] bcast_S_S100000x128 (constant S_ .f32 0x00000000#32))

/-- The reference's result is the three layers of its arguments. -/
theorem res_eq (m : (ℓ : Loc nD τ sig) → Buf (Elt Ideal) ℓ) (c : Dev nD) :
    Value.res_out0 m c = linear (relu (norm (linear (relu (norm (linear (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)))) (m ((c.tc : Thread nD τ).loc main_arg5)) (m ((c.tc : Thread nD τ).loc main_arg6)))
      (m ((c.tc : Thread nD τ).loc main_arg7)) (m ((c.tc : Thread nD τ).loc main_arg8)))) (m ((c.tc : Thread nD τ).loc main_arg9)) (m ((c.tc : Thread nD τ).loc main_arg10)) := by
  unfold Value.res_out0 Value.res_main_v70 linear norm relu colMean eps rows
  rfl

/-- A linear layer at a row and a column. -/
theorem linear_ap (x : FVec Ideal S100000x128 .f32) (w : FVec Ideal S128x128 .f32) (b : FVec Ideal S128 .f32) (R : Fin 100000) (f : Fin 128) :
    linear x w b (ix2 R f) = lin (fun R k => x (ix2 R k)) (fun f k => w (ix2 f k)) R f + b (ix1 f) := by
  pointwise [linear, rows]
  rfl

/-- The positive part of a normalisation at a row and a column. -/
theorem relu_norm_ap (h : FVec Ideal S100000x128 .f32) (g b : FVec Ideal S128 .f32) (R : Fin 100000) (f : Fin 128) :
    relu (norm h g b) (ix2 R f) = max (normed (fun r => h (ix2 r f)) (g (ix1 f)) (b (ix1 f)) R) 0 := by
  pointwise [relu, norm, rows, colMean, eps]
  rw [Cert.Words.count_eq]
  rfl

/-- A layer of the reference. -/
theorem layer_ap (x : FVec Ideal S100000x128 .f32) (w : FVec Ideal S128x128 .f32) (b g be : FVec Ideal S128 .f32) (R : Fin 100000) (f : Fin 128) :
    relu (norm (linear x w b) g be) (ix2 R f)
      = layer (lin (fun R k => x (ix2 R k)) fun f k => w (ix2 f k)) (fun k => b (ix1 k)) (fun k => g (ix1 k)) (fun k => be (ix1 k)) R f := by
  rw [relu_norm_ap]
  simp only [linear_ap]
  rfl

/-- The three layers at a row and a column. -/
theorem layers_ap (x : FVec Ideal S100000x128 .f32) (w1 w2 w3 : FVec Ideal S128x128 .f32) (b1 g1 be1 b2 g2 be2 b3 : FVec Ideal S128 .f32)
    (R : Fin 100000) (f : Fin 128) :
    linear (relu (norm (linear (relu (norm (linear x w1 b1) g1 be1)) w2 b2) g2 be2)) w3 b3 (ix2 R f)
      = lin (layer (lin (layer (lin (fun R k => x (ix2 R k)) fun f k => w1 (ix2 f k)) (fun k => b1 (ix1 k)) (fun k => g1 (ix1 k)) fun k => be1 (ix1 k))
          fun f k => w2 (ix2 f k)) (fun k => b2 (ix1 k)) (fun k => g2 (ix1 k)) fun k => be2 (ix1 k)) (fun f k => w3 (ix2 f k)) R f + b3 (ix1 f) := by
  rw [linear_ap]
  simp only [layer_ap]

end Cert.ReferenceIdeal.Spec

end
-- ==== Proof.Tame.lean ====
/-
  What the precondition says of the arguments at an index: the input, the first two weights, their biases and the gains
  are real numbers, the gains are positive, and the first shift is below +∞.
-/
module

public import proofs.«01_k».proof.Pre_tame
public import proofs.«01_k».proof.Proof.Words
public import Idealize.ShloMosaic.Lib.Pointwise

@[expose] public section

set_option maxRecDepth 16384

noncomputable section

namespace Cert.Pre_tame.Read

open Cert.Pre_tame Cert.Pre_tame.Facts
open Idealize.ShloMosaic Idealize.ShloMosaic.TcCoe

variable [Cert.Pre_tame.Facts]

/-- A number whose absolute value is below +∞ is real. -/
theorem real_of_abs_lt {x : EReal} (h : max x (-x) < ⊤) : ∃ r : ℝ, x = (r : EReal) := by
  induction x with
  | bot => exact absurd ((le_max_right _ _).trans_lt h) (by simp)
  | top => exact absurd ((le_max_left _ _).trans_lt h) (lt_irrefl _)
  | coe r => exact ⟨r, rfl⟩

/-- A truth word that is one was made of a truth. -/
theorem of_word {p : Prop} [Decidable p] (h : BitVec.ofBool (decide p) = 1#1) : p := by
  by_contra hp
  rw [decide_eq_false hp] at h
  exact absurd h (by decide)

/-- A finite input is real at every index. -/
theorem input_real (a : FVec Ideal S100000x128 .f32)
    (h : cmpf .olt (Host.absf a) (broadcastInDim S100000x128 ![] bcast_S_S100000x128 (constant S_ .f32 0x7F800000#32)) = fun _ => 1#1) (i : S100000x128.Idx) :
    ∃ r : ℝ, a i = (r : EReal) := by
  have h := congrFun h i
  pointwise [] at h
  rw [Cert.Words.inf_eq] at h
  exact real_of_abs_lt (of_word h)

/-- A finite weight is real at every index. -/
theorem weight_real (a : FVec Ideal S128x128 .f32)
    (h : cmpf .olt (Host.absf a) (broadcastInDim S128x128 ![] bcast_S_S128x128 (constant S_ .f32 0x7F800000#32)) = fun _ => 1#1) (i : S128x128.Idx) :
    ∃ r : ℝ, a i = (r : EReal) := by
  have h := congrFun h i
  pointwise [] at h
  rw [Cert.Words.inf_eq] at h
  exact real_of_abs_lt (of_word h)

/-- A finite vector is real at every index. -/
theorem vector_real (a : FVec Ideal S128 .f32)
    (h : cmpf .olt (Host.absf a) (broadcastInDim S128 ![] bcast_S_S128 (constant S_ .f32 0x7F800000#32)) = fun _ => 1#1) (i : S128.Idx) :
    ∃ r : ℝ, a i = (r : EReal) := by
  have h := congrFun h i
  pointwise [] at h
  rw [Cert.Words.inf_eq] at h
  exact real_of_abs_lt (of_word h)

/-- A vector below +∞. -/
theorem vector_lt (a : FVec Ideal S128 .f32)
    (h : cmpf .olt a (broadcastInDim S128 ![] bcast_S_S128 (constant S_ .f32 0x7F800000#32)) = fun _ => 1#1) (i : S128.Idx) : a i < (⊤ : EReal) := by
  have h := congrFun h i
  pointwise [] at h
  rw [Cert.Words.inf_eq] at h
  exact of_word h

/-- A positive vector. -/
theorem vector_pos (a : FVec Ideal S128 .f32)
    (h : cmpf .ogt a (broadcastInDim S128 ![] bcast_S_S128 (constant S_ .f32 0x00000000#32)) = fun _ => 1#1) (i : S128.Idx) : (0 : EReal) < a i := by
  have h := congrFun h i
  pointwise [] at h
  exact of_word h

/-- The precondition at the indices. -/
theorem tame (x : FVec Ideal S100000x128 .f32) (w1 : FVec Ideal S128x128 .f32) (b1 g1 be1 : FVec Ideal S128 .f32) (w2 : FVec Ideal S128x128 .f32)
    (b2 g2 be2 : FVec Ideal S128 .f32) (w3 : FVec Ideal S128x128 .f32) (b3 : FVec Ideal S128 .f32)
    (h : (fn x w1 b1 g1 be1 w2 b2 g2 be2 w3 b3).1 = (fun _ => 1#1) ∧ (fn x w1 b1 g1 be1 w2 b2 g2 be2 w3 b3).2.1 = (fun _ => 1#1)
      ∧ (fn x w1 b1 g1 be1 w2 b2 g2 be2 w3 b3).2.2.1 = (fun _ => 1#1) ∧ (fn x w1 b1 g1 be1 w2 b2 g2 be2 w3 b3).2.2.2.1 = (fun _ => 1#1)
      ∧ (fn x w1 b1 g1 be1 w2 b2 g2 be2 w3 b3).2.2.2.2.1 = (fun _ => 1#1) ∧ (fn x w1 b1 g1 be1 w2 b2 g2 be2 w3 b3).2.2.2.2.2.1 = (fun _ => 1#1)
      ∧ (fn x w1 b1 g1 be1 w2 b2 g2 be2 w3 b3).2.2.2.2.2.2.1 = (fun _ => 1#1) ∧ (fn x w1 b1 g1 be1 w2 b2 g2 be2 w3 b3).2.2.2.2.2.2.2.1 = (fun _ => 1#1)
      ∧ (fn x w1 b1 g1 be1 w2 b2 g2 be2 w3 b3).2.2.2.2.2.2.2.2.1 = (fun _ => 1#1)
      ∧ (fn x w1 b1 g1 be1 w2 b2 g2 be2 w3 b3).2.2.2.2.2.2.2.2.2 = (fun _ => 1#1)) :
    (∀ i, ∃ r : ℝ, x i = (r : EReal)) ∧ (∀ i, ∃ r : ℝ, w1 i = (r : EReal)) ∧ (∀ i, ∃ r : ℝ, b1 i = (r : EReal)) ∧ (∀ i, ∃ r : ℝ, g1 i = (r : EReal))
      ∧ (∀ i, ∃ r : ℝ, w2 i = (r : EReal)) ∧ (∀ i, ∃ r : ℝ, b2 i = (r : EReal)) ∧ (∀ i, ∃ r : ℝ, g2 i = (r : EReal))
      ∧ (∀ i, be1 i < (⊤ : EReal)) ∧ (∀ i, (0 : EReal) < g1 i) ∧ (∀ i, (0 : EReal) < g2 i) := by
  obtain ⟨hx, hw1, hb1, hg1, hw2, hb2, hg2, hbe1, hp1, hp2⟩ := h
  exact ⟨input_real x hx, weight_real w1 hw1, vector_real b1 hb1, vector_real g1 hg1, weight_real w2 hw2, vector_real b2 hb2, vector_real g2 hg2,
    vector_lt be1 hbe1, vector_pos g1 hp1, vector_pos g2 hp2⟩

end Cert.Pre_tame.Read

end
-- ==== Proof.Result.lean ====
/-
  The kernel's result and the reference's are one array where the precondition holds and the arguments agree.
-/
module

public import proofs.«01_k».proof.Defs
public import proofs.«01_k».proof.Proof.Tiles
public import proofs.«01_k».proof.Proof.Reference
public import proofs.«01_k».proof.Proof.Tame

@[expose] public section

set_option maxRecDepth 16384

noncomputable section

namespace Cert.Result

open Idealize.ShloMosaic Idealize.ShloMosaic.TcCoe
open Cert.Algebra Cert.KernelIdeal.Value

variable [Cert.Pre_tame.Facts]

/-- The kernel's result at a row and a column is the reference's three layers of the same arguments. -/
theorem third_eq (m : (ℓ : Loc Cert.KernelIdeal.nD Cert.KernelIdeal.τ Cert.KernelIdeal.sig) → Buf (Elt Ideal) ℓ) (c : Dev Cert.KernelIdeal.nD)
    (hm : Cert.Pre_KernelIdeal_tame m) (R : Fin 100000) (f : Fin 128) :
    Cert.ReferenceIdeal.Spec.linear (Cert.ReferenceIdeal.Spec.relu (Cert.ReferenceIdeal.Spec.norm (Cert.ReferenceIdeal.Spec.linear
      (Cert.ReferenceIdeal.Spec.relu (Cert.ReferenceIdeal.Spec.norm (Cert.ReferenceIdeal.Spec.linear
        (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4))))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8))))
        (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (ix2 R f)
      = third m c R f := by
  obtain ⟨hx, hw1, hb1, hg1, hw2, hb2, hg2, hbe1, hp1, hp2⟩ := Cert.Pre_tame.Read.tame _ _ _ _ _ _ _ _ _ _ _ (hm c)
  rw [Cert.ReferenceIdeal.Spec.layers_ap]
  unfold third
  refine congrArg₂ (· + ·) ?_ rfl
  choose x hx using hx
  choose w1 hw1 using hw1
  choose b1 hb1 using hb1
  choose g1 hg1 using hg1
  choose w2 hw2 using hw2
  choose b2 hb2 using hb2
  choose g2 hg2 using hg2
  have eX : argX m c = fun R k => (x (ix2 R k) : EReal) := funext fun R => funext fun k => hx _
  have eW1 : argW1 m c = fun f k => (w1 (ix2 f k) : EReal) := funext fun f => funext fun k => hw1 _
  have eW2 : argW2 m c = fun f k => (w2 (ix2 f k) : EReal) := funext fun f => funext fun k => hw2 _
  have eG1 : argG1 m c = fun k => (g1 (ix1 k) : EReal) := funext fun k => hg1 _
  have eG2 : argG2 m c = fun k => (g2 (ix1 k) : EReal) := funext fun k => hg2 _
  have h := layers_eq (fun R k => x (ix2 R k)) (fun f k => w1 (ix2 f k)) (fun f k => w2 (ix2 f k)) (fun k => b1 (ix1 k)) (fun k => g1 (ix1 k))
    (fun k => b2 (ix1 k)) (fun k => g2 (ix1 k)) (argB1 m c) (argB2 m c) (argW3 m c) (fun k => hbe1 _)
    (fun k => EReal.coe_pos.mp ((hp1 (ix1 k)).trans_eq (hg1 (ix1 k)))) (fun k => EReal.coe_pos.mp ((hp2 (ix1 k)).trans_eq (hg2 (ix1 k))))
  unfold second first
  rw [eX, eW1, eW2, eG1, eG2, h]
  simp only [hx, hw1, hb1, hg1, hw2, hb2, hg2]
  rfl

/-- From arguments that agree, the reference's result is the kernel's. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hm : Cert.Pre_KernelIdeal_tame m)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_out0 m' c = fun i : Cert.KernelIdeal.S100000x128.Idx => third m c (i 0) (i 1) := by
  obtain ⟨h0, h1, h2, h3, h4, h5, h6, h7, h8, h9, h10⟩ := h
  refine (Cert.ReferenceIdeal.Spec.res_eq m' c).trans ?_
  rw [h0, h1, h2, h3, h4, h5, h6, h7, h8, h9, h10]
  funext i
  obtain ⟨R, f, rfl⟩ : ∃ R f, i = ix2 R f := ⟨i 0, i 1, eq_ix2 i⟩
  exact third_eq m c hm R f

end Cert.Result

end
-- ==== Proof.lean ====
module

public import proofs.«01_k».proof.Defs
public import proofs.«01_k».proof.Proof.PrintedBody
public import proofs.«01_k».proof.Proof.Body
public import proofs.«01_k».proof.Proof.Result
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments as they were, and has no counter to leave. -/
theorem reference_frame : Cert.quiescent_ReferenceIdeal := fun m g _ =>
  (θ_run Cert.ReferenceIdeal.defs _ _).mono (fun r h => And.intro (fun c => (h c).2)
      (Idealize.ShloMosaic.sem_eq_zero_of_no_sems (by decide) r.2))
    (Cert.ReferenceIdeal.Value.run (F := Ideal) m g)

/-- The algebraic claim. -/
theorem algebraic : Cert.algebraic_KernelIdeal_ReferenceIdeal_pre_tame := by
  intro m g m' g' hm hagree
  refine ⟨fun c => fun i : Cert.KernelIdeal.S100000x128.Idx => Cert.KernelIdeal.Value.third m c (i 0) (i 1), ?_, ?_⟩
  · exact (θ_run Cert.KernelIdeal.defs _ _).mono
      (fun r h => fun c => And.intro (((h.1 c).1 9).trans (Cert.KernelIdeal.Value.result m c)) (h.2.1 c))
      (θ_run_and (Cert.KernelIdeal.Body.run_main m g) (Cert.KernelIdeal.Body.frame_quiescent m g))
  · exact (θ_run Cert.ReferenceIdeal.defs _ _).mono (fun _ h c => ⟨(h c).1.trans (Cert.Result.agree m m' c hm (hagree c)), (h c).2⟩)
      (Cert.ReferenceIdeal.Value.run (F := Ideal) m' g')

/-- All the claims. -/
theorem claim : Cert.Claim := ⟨Cert.Kernel.Gen.facts, Cert.KernelIdeal.Gen.facts, Cert.ReferenceIdeal.Gen.facts, Cert.Pre_tame.Gen.facts,
  fun m g _ => Cert.Kernel.Body.frame_quiescent m g, fun m g _ => Cert.KernelIdeal.Body.frame_quiescent m g,
  fun m g _ => Cert.KernelIdeal.Body.frame_quiescent m g, reference_frame, fun m g _ => reference_frame m g trivial,
  IdealRules.named_const.statement Cert.KernelIdeal.κ "one_hundred_thousandth" .f32 0x3727C5AC#32 ((100000⁻¹ : ℝ) : EReal) rfl,
  algebraic⟩

end Cert.Proof

end
